-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v26)) (v1 : (c : Dev Cert.KernelIdeal.nD) → Buf (Elt Ideal) ((c.tc : Thread Cert.KernelIdeal.nD Cert.KernelIdeal.τ).loc Cert.KernelIdeal.main_v27)) (v2 : (c : Dev Cert.KernelIdeal.nD) → Buf (Elt Ideal) ((c.tc : Thread Cert.KernelIdeal.nD Cert.KernelIdeal.τ).loc Cert.KernelIdeal.main_v28)) (v3 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_v27) = v1 c
          ∧ r.2.mem ((c.tc : Thread Cert.KernelIdeal.nD Cert.KernelIdeal.τ).loc Cert.KernelIdeal.main_v28) = v2 c
          ∧ r.2.mem ((c.tc : Thread Cert.KernelIdeal.nD Cert.KernelIdeal.τ).loc Cert.KernelIdeal.main_v29) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_v27) = v2 c
          ∧ r.2.mem ((c.tc : Thread Cert.ReferenceIdeal.nD Cert.ReferenceIdeal.τ).loc Cert.ReferenceIdeal.main_v56) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x1024x1024 : Shape := ⟨3, ![16, 1024, 1024]⟩
abbrev S16x1024x1x4x512 : Shape := ⟨5, ![16, 1024, 1, 4, 512]⟩
abbrev S16x1024x6x512 : Shape := ⟨4, ![16, 1024, 6, 512]⟩
abbrev S16x1024x4 : Shape := ⟨3, ![16, 1024, 4]⟩
abbrev S16x1024x6 : Shape := ⟨3, ![16, 1024, 6]⟩
abbrev S1024x512 : Shape := ⟨2, ![1024, 512]⟩
abbrev S512x512 : Shape := ⟨2, ![512, 512]⟩
abbrev S512 : Shape := ⟨1, ![512]⟩
abbrev S512x1024 : Shape := ⟨2, ![512, 1024]⟩
abbrev S1024 : Shape := ⟨1, ![1024]⟩
abbrev S16384x1024 : Shape := ⟨2, ![16384, 1024]⟩
abbrev S16384x2048 : Shape := ⟨2, ![16384, 2048]⟩
abbrev S16384x3072 : Shape := ⟨2, ![16384, 3072]⟩
abbrev S16384x4 : Shape := ⟨2, ![16384, 4]⟩
abbrev S16384x6 : Shape := ⟨2, ![16384, 6]⟩
abbrev S16384x10 : Shape := ⟨2, ![16384, 10]⟩
abbrev S_ : Shape := ⟨0, ![]⟩
abbrev S1 : Shape := ⟨1, ![1]⟩
abbrev S2 : Shape := ⟨1, ![2]⟩
abbrev S1x1 : Shape := ⟨2, ![1, 1]⟩
abbrev S1x512 : Shape := ⟨2, ![1, 512]⟩
abbrev S1x1024 : Shape := ⟨2, ![1, 1024]⟩
abbrev S16384x1 : Shape := ⟨2, ![16384, 1]⟩
abbrev S512x10 : Shape := ⟨2, ![512, 10]⟩
abbrev S512x2048 : Shape := ⟨2, ![512, 2048]⟩
abbrev S512x3072 : Shape := ⟨2, ![512, 3072]⟩
abbrev S512x1 : Shape := ⟨2, ![512, 1]⟩
abbrev S16x1024x1 : Shape := ⟨3, ![16, 1024, 1]⟩
abbrev S16x1024x10 : Shape := ⟨3, ![16, 1024, 10]⟩

abbrev nBuf : Space → Nat
  | .hbm => 315
  | .vmem => 26
  | .smem => 0
  | _ => 0

abbrev hbmTy0_0 (i : Nat) : BufTy := match i % 128 with
  | 0 => ⟨S16x1024x1024, .f32⟩
  | 1 => ⟨S16x1024x1x4x512, .f32⟩
  | 2 => ⟨S16x1024x6x512, .f32⟩
  | 3 => ⟨S16x1024x4, .i1⟩
  | 4 => ⟨S16x1024x6, .i1⟩
  | 5 => ⟨S1024x512, .f32⟩
  | 6 => ⟨S512x512, .f32⟩
  | 7 => ⟨S1024x512, .f32⟩
  | 8 => ⟨S512x512, .f32⟩
  | 9 => ⟨S512x512, .f32⟩
  | 10 => ⟨S512, .f32⟩
  | 11 => ⟨S512x1024, .f32⟩
  | 12 => ⟨S1024, .f32⟩
  | 13 => ⟨S16384x1024, .f32⟩
  | 14 => ⟨S16384x2048, .f32⟩
  | 15 => ⟨S16384x2048, .bf16⟩
  | 16 => ⟨S16384x3072, .f32⟩
  | 17 => ⟨S16384x3072, .bf16⟩
  | 18 => ⟨S16384x4, .i1⟩
  | 19 => ⟨S16384x6, .i1⟩
  | 20 => ⟨S16384x10, .i1⟩
  | 21 => ⟨S16384x10, .f32⟩
  | 22 => ⟨S_, .i32⟩
  | 23 => ⟨S_, .i32⟩
  | 24 => ⟨S_, .i32⟩
  | 25 => ⟨S_, .i32⟩
  | 26 => ⟨S1, .i32⟩
  | 27 => ⟨S_, .i32⟩
  | 28 => ⟨S_, .i32⟩
  | 29 => ⟨S_, .i32⟩
  | 30 => ⟨S1, .i32⟩
  | 31 => ⟨S2, .i32⟩
  | 32 => ⟨S_, .f32⟩
  | 33 => ⟨S_, .f32⟩
  | 34 => ⟨S_, .f32⟩
  | 35 => ⟨S1x1, .f32⟩
  | 36 => ⟨S1x1, .f32⟩
  | 37 => ⟨S1, .i32⟩
  | 38 => ⟨S_, .i32⟩
  | 39 => ⟨S1, .i32⟩
  | 40 => ⟨S_, .i32⟩
  | 41 => ⟨S16384x10, .i64⟩
  | 42 => ⟨S16384x10, .i64⟩
  | 43 => ⟨S_, .i64⟩
  | 44 => ⟨S16384x10, .i64⟩
  | 45 => ⟨S16384x10, .i64⟩
  | 46 => ⟨S_, .i64⟩
  | 47 => ⟨S16384x10, .i64⟩
  | 48 => ⟨S16384x10, .i64⟩
  | 49 => ⟨S16384x10, .i64⟩
  | 50 => ⟨S_, .i64⟩
  | 51 => ⟨S16384x10, .i64⟩
  | 52 => ⟨S16384x10, .i64⟩
  | 53 => ⟨S16384x10, .i32⟩
  | 54 => ⟨S16384x10, .i32⟩
  | 55 => ⟨S_, .i32⟩
  | 56 => ⟨S_, .i32⟩
  | 57 => ⟨S_, .i32⟩
  | 58 => ⟨S16384x10, .i32⟩
  | 59 => ⟨S16384x10, .i32⟩
  | 60 => ⟨S16384x10, .i32⟩
  | 61 => ⟨S16384x10, .i32⟩
  | 62 => ⟨S16384x10, .i32⟩
  | 63 => ⟨S_, .i32⟩
  | 64 => ⟨S16384x10, .i32⟩
  | 65 => ⟨S16384x10, .i32⟩
  | 66 => ⟨S_, .i32⟩
  | 67 => ⟨S16384x10, .i32⟩
  | 68 => ⟨S16384x10, .i32⟩
  | 69 => ⟨S16384x10, .i32⟩
  | 70 => ⟨S16384x10, .i32⟩
  | 71 => ⟨S16384x10, .i32⟩
  | 72 => ⟨S_, .i32⟩
  | 73 => ⟨S16384x10, .i32⟩
  | 74 => ⟨S16384x10, .i32⟩
  | 75 => ⟨S_, .i32⟩
  | 76 => ⟨S16384x10, .i32⟩
  | 77 => ⟨S16384x10, .i32⟩
  | 78 => ⟨S16384x10, .i32⟩
  | 79 => ⟨S16384x10, .i32⟩
  | 80 => ⟨S16384x10, .i32⟩
  | 81 => ⟨S_, .i32⟩
  | 82 => ⟨S16384x10, .i32⟩
  | 83 => ⟨S16384x10, .i32⟩
  | 84 => ⟨S_, .i32⟩
  | 85 => ⟨S16384x10, .i32⟩
  | 86 => ⟨S16384x10, .i32⟩
  | 87 => ⟨S16384x10, .i32⟩
  | 88 => ⟨S16384x10, .i32⟩
  | 89 => ⟨S16384x10, .i32⟩
  | 90 => ⟨S_, .i32⟩
  | 91 => ⟨S16384x10, .i32⟩
  | 92 => ⟨S16384x10, .i32⟩
  | 93 => ⟨S_, .i32⟩
  | 94 => ⟨S16384x10, .i32⟩
  | 95 => ⟨S16384x10, .i32⟩
  | 96 => ⟨S16384x10, .i32⟩
  | 97 => ⟨S16384x10, .i32⟩
  | 98 => ⟨S16384x10, .i32⟩
  | 99 => ⟨S16384x10, .i32⟩
  | 100 => ⟨S16384x10, .i32⟩
  | 101 => ⟨S16384x10, .i32⟩
  | 102 => ⟨S_, .i32⟩
  | 103 => ⟨S16384x10, .i32⟩
  | 104 => ⟨S16384x10, .i32⟩
  | 105 => ⟨S16384x10, .i32⟩
  | 106 => ⟨S_, .i32⟩
  | 107 => ⟨S16384x10, .i32⟩
  | 108 => ⟨S16384x10, .i32⟩
  | 109 => ⟨S_, .i32⟩
  | 110 => ⟨S16384x10, .i32⟩
  | 111 => ⟨S16384x10, .i32⟩
  | 112 => ⟨S16384x10, .i32⟩
  | 113 => ⟨S16384x10, .i32⟩
  | 114 => ⟨S16384x10, .i32⟩
  | 115 => ⟨S_, .i32⟩
  | 116 => ⟨S16384x10, .i32⟩
  | 117 => ⟨S16384x10, .i32⟩
  | 118 => ⟨S_, .i32⟩
  | 119 => ⟨S16384x10, .i32⟩
  | 120 => ⟨S16384x10, .i32⟩
  | 121 => ⟨S16384x10, .i32⟩
  | 122 => ⟨S16384x10, .i32⟩
  | 123 => ⟨S16384x10, .i32⟩
  | 124 => ⟨S_, .i32⟩
  | 125 => ⟨S16384x10, .i32⟩
  | 126 => ⟨S16384x10, .i32⟩
  | 127 => ⟨S_, .i32⟩
  | _ => ⟨S16x1024x1024, .f32⟩

abbrev hbmTy0_1 (i : Nat) : BufTy := match i % 128 with
  | 0 => ⟨S16384x10, .i32⟩
  | 1 => ⟨S16384x10, .i32⟩
  | 2 => ⟨S16384x10, .i32⟩
  | 3 => ⟨S16384x10, .i32⟩
  | 4 => ⟨S16384x10, .i32⟩
  | 5 => ⟨S_, .i32⟩
  | 6 => ⟨S16384x10, .i32⟩
  | 7 => ⟨S16384x10, .i32⟩
  | 8 => ⟨S_, .i32⟩
  | 9 => ⟨S16384x10, .i32⟩
  | 10 => ⟨S16384x10, .i32⟩
  | 11 => ⟨S16384x10, .i32⟩
  | 12 => ⟨S16384x10, .i32⟩
  | 13 => ⟨S16384x10, .i32⟩
  | 14 => ⟨S16384x10, .i32⟩
  | 15 => ⟨S16384x10, .i32⟩
  | 16 => ⟨S16384x10, .i32⟩
  | 17 => ⟨S_, .i32⟩
  | 18 => ⟨S16384x10, .i32⟩
  | 19 => ⟨S16384x10, .i32⟩
  | 20 => ⟨S16384x10, .i32⟩
  | 21 => ⟨S_, .i32⟩
  | 22 => ⟨S16384x10, .i32⟩
  | 23 => ⟨S16384x10, .i32⟩
  | 24 => ⟨S_, .i32⟩
  | 25 => ⟨S16384x10, .i32⟩
  | 26 => ⟨S16384x10, .i32⟩
  | 27 => ⟨S16384x10, .i32⟩
  | 28 => ⟨S16384x10, .i32⟩
  | 29 => ⟨S16384x10, .i32⟩
  | 30 => ⟨S_, .i32⟩
  | 31 => ⟨S16384x10, .i32⟩
  | 32 => ⟨S16384x10, .i32⟩
  | 33 => ⟨S_, .i32⟩
  | 34 => ⟨S16384x10, .i32⟩
  | 35 => ⟨S16384x10, .i32⟩
  | 36 => ⟨S16384x10, .i32⟩
  | 37 => ⟨S16384x10, .i32⟩
  | 38 => ⟨S16384x10, .i32⟩
  | 39 => ⟨S_, .i32⟩
  | 40 => ⟨S16384x10, .i32⟩
  | 41 => ⟨S16384x10, .i32⟩
  | 42 => ⟨S_, .i32⟩
  | 43 => ⟨S16384x10, .i32⟩
  | 44 => ⟨S16384x10, .i32⟩
  | 45 => ⟨S16384x10, .i32⟩
  | 46 => ⟨S16384x10, .i32⟩
  | 47 => ⟨S16384x10, .i32⟩
  | 48 => ⟨S_, .i32⟩
  | 49 => ⟨S16384x10, .i32⟩
  | 50 => ⟨S16384x10, .i32⟩
  | 51 => ⟨S_, .i32⟩
  | 52 => ⟨S16384x10, .i32⟩
  | 53 => ⟨S16384x10, .i32⟩
  | 54 => ⟨S16384x10, .i32⟩
  | 55 => ⟨S16384x10, .i32⟩
  | 56 => ⟨S16384x10, .i32⟩
  | 57 => ⟨S16384x10, .i32⟩
  | 58 => ⟨S16384x10, .i32⟩
  | 59 => ⟨S16384x10, .i32⟩
  | 60 => ⟨S_, .i32⟩
  | 61 => ⟨S16384x10, .i32⟩
  | 62 => ⟨S16384x10, .i32⟩
  | 63 => ⟨S16384x10, .i32⟩
  | 64 => ⟨S_, .i32⟩
  | 65 => ⟨S16384x10, .i32⟩
  | 66 => ⟨S16384x10, .i32⟩
  | 67 => ⟨S_, .i32⟩
  | 68 => ⟨S16384x10, .i32⟩
  | 69 => ⟨S16384x10, .i32⟩
  | 70 => ⟨S16384x10, .i32⟩
  | 71 => ⟨S16384x10, .i32⟩
  | 72 => ⟨S16384x10, .i32⟩
  | 73 => ⟨S_, .i32⟩
  | 74 => ⟨S16384x10, .i32⟩
  | 75 => ⟨S16384x10, .i32⟩
  | 76 => ⟨S_, .i32⟩
  | 77 => ⟨S16384x10, .i32⟩
  | 78 => ⟨S16384x10, .i32⟩
  | 79 => ⟨S16384x10, .i32⟩
  | 80 => ⟨S16384x10, .i32⟩
  | 81 => ⟨S16384x10, .i32⟩
  | 82 => ⟨S_, .i32⟩
  | 83 => ⟨S16384x10, .i32⟩
  | 84 => ⟨S16384x10, .i32⟩
  | 85 => ⟨S_, .i32⟩
  | 86 => ⟨S16384x10, .i32⟩
  | 87 => ⟨S16384x10, .i32⟩
  | 88 => ⟨S16384x10, .i32⟩
  | 89 => ⟨S16384x10, .i32⟩
  | 90 => ⟨S16384x10, .i32⟩
  | 91 => ⟨S_, .i32⟩
  | 92 => ⟨S16384x10, .i32⟩
  | 93 => ⟨S16384x10, .i32⟩
  | 94 => ⟨S_, .i32⟩
  | 95 => ⟨S16384x10, .i32⟩
  | 96 => ⟨S16384x10, .i32⟩
  | 97 => ⟨S16384x10, .i32⟩
  | 98 => ⟨S16384x10, .i32⟩
  | 99 => ⟨S16384x10, .i32⟩
  | 100 => ⟨S16384x10, .i32⟩
  | 101 => ⟨S16384x10, .i32⟩
  | 102 => ⟨S16384x10, .i32⟩
  | 103 => ⟨S_, .i32⟩
  | 104 => ⟨S16384x10, .i32⟩
  | 105 => ⟨S16384x10, .i32⟩
  | 106 => ⟨S16384x10, .i32⟩
  | 107 => ⟨S_, .i32⟩
  | 108 => ⟨S16384x10, .i32⟩
  | 109 => ⟨S16384x10, .i32⟩
  | 110 => ⟨S_, .i32⟩
  | 111 => ⟨S16384x10, .i32⟩
  | 112 => ⟨S16384x10, .i32⟩
  | 113 => ⟨S16384x10, .i32⟩
  | 114 => ⟨S16384x10, .i32⟩
  | 115 => ⟨S16384x10, .i32⟩
  | 116 => ⟨S_, .i32⟩
  | 117 => ⟨S16384x10, .i32⟩
  | 118 => ⟨S16384x10, .i32⟩
  | 119 => ⟨S_, .i32⟩
  | 120 => ⟨S16384x10, .i32⟩
  | 121 => ⟨S16384x10, .i32⟩
  | 122 => ⟨S16384x10, .i32⟩
  | 123 => ⟨S16384x10, .i32⟩
  | 124 => ⟨S16384x10, .i32⟩
  | 125 => ⟨S_, .i32⟩
  | 126 => ⟨S16384x10, .i32⟩
  | 127 => ⟨S16384x10, .i32⟩
  | _ => ⟨S16x1024x1024, .f32⟩

abbrev hbmTy0_2 (i : Nat) : BufTy := match i % 128 with
  | 0 => ⟨S_, .i32⟩
  | 1 => ⟨S16384x10, .i32⟩
  | 2 => ⟨S16384x10, .i32⟩
  | 3 => ⟨S16384x10, .i32⟩
  | 4 => ⟨S16384x10, .i32⟩
  | 5 => ⟨S16384x10, .i32⟩
  | 6 => ⟨S_, .i32⟩
  | 7 => ⟨S16384x10, .i32⟩
  | 8 => ⟨S16384x10, .i32⟩
  | 9 => ⟨S_, .i32⟩
  | 10 => ⟨S16384x10, .i32⟩
  | 11 => ⟨S16384x10, .i32⟩
  | 12 => ⟨S16384x10, .i32⟩
  | 13 => ⟨S16384x10, .i32⟩
  | 14 => ⟨S16384x10, .i32⟩
  | 15 => ⟨S16384x10, .i32⟩
  | 16 => ⟨S16384x10, .i32⟩
  | 17 => ⟨S16384x10, .i32⟩
  | 18 => ⟨S_, .i32⟩
  | 19 => ⟨S16384x10, .i32⟩
  | 20 => ⟨S16384x10, .i32⟩
  | 21 => ⟨S16384x10, .i32⟩
  | 22 => ⟨S_, .i32⟩
  | 23 => ⟨S16384x10, .i32⟩
  | 24 => ⟨S16384x10, .i32⟩
  | 25 => ⟨S_, .i32⟩
  | 26 => ⟨S16384x10, .i32⟩
  | 27 => ⟨S16384x10, .i32⟩
  | 28 => ⟨S16384x10, .f32⟩
  | 29 => ⟨S_, .f32⟩
  | 30 => ⟨S16384x10, .f32⟩
  | 31 => ⟨S16384x10, .f32⟩
  | 32 => ⟨S1x1, .f32⟩
  | 33 => ⟨S16384x10, .f32⟩
  | 34 => ⟨S16384x10, .f32⟩
  | 35 => ⟨S16384x10, .f32⟩
  | 36 => ⟨S16384x10, .f32⟩
  | 37 => ⟨S16384x10, .f32⟩
  | 38 => ⟨S16384x10, .f32⟩
  | 39 => ⟨S16384x10, .f32⟩
  | 40 => ⟨S16384x10, .f32⟩
  | 41 => ⟨S16384x10, .f32⟩
  | 42 => ⟨S16384x10, .f32⟩
  | 43 => ⟨S1024x512, .bf16⟩
  | 44 => ⟨S1024x512, .bf16⟩
  | 45 => ⟨S512x512, .bf16⟩
  | 46 => ⟨S512x512, .bf16⟩
  | 47 => ⟨S512x512, .bf16⟩
  | 48 => ⟨S1x512, .f32⟩
  | 49 => ⟨S512x1024, .bf16⟩
  | 50 => ⟨S1x1024, .f32⟩
  | 51 => ⟨S16384x1, .i32⟩
  | 52 => ⟨S16384x10, .f32⟩
  | 53 => ⟨S16384x10, .f32⟩
  | 54 => ⟨S16384x1024, .f32⟩
  | 55 => ⟨S16x1024x1, .i32⟩
  | 56 => ⟨S16x1024x10, .f32⟩
  | 57 => ⟨S16x1024x10, .f32⟩
  | 58 => ⟨S16x1024x1024, .f32⟩
  | _ => ⟨S16x1024x1024, .f32⟩

abbrev hbmTy (i : Nat) : BufTy := match i / 128 with
  | 0 => hbmTy0_0 i
  | 1 => hbmTy0_1 i
  | 2 => hbmTy0_2 i
  | _ => ⟨S16x1024x1024, .f32⟩

abbrev bufTy : (tb : Table) → Fin (tcTables nBuf tb) → BufTy
  | .hbm, ⟨i, _⟩ => hbmTy i
  | .local _ .vmem, ⟨0, _⟩ => ⟨S512x10, .f32⟩
  | .local _ .vmem, ⟨1, _⟩ => ⟨S512x10, .f32⟩
  | .local _ .vmem, ⟨2, _⟩ => ⟨S512x1024, .f32⟩
  | .local _ .vmem, ⟨3, _⟩ => ⟨S512x1024, .f32⟩
  | .local _ .vmem, ⟨4, _⟩ => ⟨S512x2048, .bf16⟩
  | .local _ .vmem, ⟨5, _⟩ => ⟨S512x2048, .bf16⟩
  | .local _ .vmem, ⟨6, _⟩ => ⟨S512x3072, .bf16⟩
  | .local _ .vmem, ⟨7, _⟩ => ⟨S512x3072, .bf16⟩
  | .local _ .vmem, ⟨8, _⟩ => ⟨S512x10, .f32⟩
  | .local _ .vmem, ⟨9, _⟩ => ⟨S512x10, .f32⟩
  | .local _ .vmem, ⟨10, _⟩ => ⟨S1024x512, .bf16⟩
  | .local _ .vmem, ⟨11, _⟩ => ⟨S1024x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S1x512, .f32⟩
  | .local _ .vmem, ⟨16, _⟩ => ⟨S512x1024, .bf16⟩
  | .local _ .vmem, ⟨17, _⟩ => ⟨S1x1024, .f32⟩
  | .local _ .vmem, ⟨18, _⟩ => ⟨S512x1, .i32⟩
  | .local _ .vmem, ⟨19, _⟩ => ⟨S512x1, .i32⟩
  | .local _ .vmem, ⟨20, _⟩ => ⟨S512x10, .f32⟩
  | .local _ .vmem, ⟨21, _⟩ => ⟨S512x10, .f32⟩
  | .local _ .vmem, ⟨22, _⟩ => ⟨S512x10, .f32⟩
  | .local _ .vmem, ⟨23, _⟩ => ⟨S512x10, .f32⟩
  | .local _ .vmem, ⟨24, _⟩ => ⟨S512x1024, .f32⟩
  | .local _ .vmem, ⟨25, _⟩ => ⟨S512x1024, .f32⟩
  | _, _ => ⟨S16x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c : Ref sig .tc := ⟨.hbm, 22, rfl⟩
abbrev main_c_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_call0_cst : Ref sig .tc := ⟨.hbm, 32, rfl⟩
abbrev main_call0_cst_0 : Ref sig .tc := ⟨.hbm, 33, rfl⟩
abbrev main_call0_call0_v0 : Ref sig .tc := ⟨.hbm, 34, rfl⟩
abbrev main_call0_call0_v1 : Ref sig .tc := ⟨.hbm, 35, rfl⟩
abbrev main_call0_call0_v2 : Ref sig .tc := ⟨.hbm, 36, rfl⟩
abbrev main_call0_call0_v3 : Ref sig .tc := ⟨.hbm, 37, rfl⟩
abbrev main_call0_call0_v4 : Ref sig .tc := ⟨.hbm, 38, rfl⟩
abbrev main_call0_call0_v5 : Ref sig .tc := ⟨.hbm, 39, rfl⟩
abbrev main_call0_call0_v6 : Ref sig .tc := ⟨.hbm, 40, rfl⟩
abbrev main_call0_call0_v7 : Ref sig .tc := ⟨.hbm, 41, rfl⟩
abbrev main_call0_call0_v8 : Ref sig .tc := ⟨.hbm, 42, rfl⟩
abbrev main_call0_call0_c : Ref sig .tc := ⟨.hbm, 43, rfl⟩
abbrev main_call0_call0_v9 : Ref sig .tc := ⟨.hbm, 44, rfl⟩
abbrev main_call0_call0_v10 : Ref sig .tc := ⟨.hbm, 45, rfl⟩
abbrev main_call0_call0_c_0 : Ref sig .tc := ⟨.hbm, 46, rfl⟩
abbrev main_call0_call0_v11 : Ref sig .tc := ⟨.hbm, 47, rfl⟩
abbrev main_call0_call0_v12 : Ref sig .tc := ⟨.hbm, 48, rfl⟩
abbrev main_call0_call0_v13 : Ref sig .tc := ⟨.hbm, 49, rfl⟩
abbrev main_call0_call0_c_1 : Ref sig .tc := ⟨.hbm, 50, rfl⟩
abbrev main_call0_call0_v14 : Ref sig .tc := ⟨.hbm, 51, rfl⟩
abbrev main_call0_call0_v15 : Ref sig .tc := ⟨.hbm, 52, rfl⟩
abbrev main_call0_call0_v16 : Ref sig .tc := ⟨.hbm, 53, rfl⟩
abbrev main_call0_call0_v17 : Ref sig .tc := ⟨.hbm, 54, rfl⟩
abbrev main_call0_call0_call0_v0 : Ref sig .tc := ⟨.hbm, 55, rfl⟩
abbrev main_call0_call0_call0_c : Ref sig .tc := ⟨.hbm, 56, rfl⟩
abbrev main_call0_call0_call0_v1 : Ref sig .tc := ⟨.hbm, 57, rfl⟩
abbrev main_call0_call0_call0_v2 : Ref sig .tc := ⟨.hbm, 58, rfl⟩
abbrev main_call0_call0_call0_v3 : Ref sig .tc := ⟨.hbm, 59, rfl⟩
abbrev main_call0_call0_call0_v4 : Ref sig .tc := ⟨.hbm, 60, rfl⟩
abbrev main_call0_call0_call0_v5 : Ref sig .tc := ⟨.hbm, 61, rfl⟩
abbrev main_call0_call0_call0_v6 : Ref sig .tc := ⟨.hbm, 62, rfl⟩
abbrev main_call0_call0_call0_c_0 : Ref sig .tc := ⟨.hbm, 63, rfl⟩
abbrev main_call0_call0_call0_v7 : Ref sig .tc := ⟨.hbm, 64, rfl⟩
abbrev main_call0_call0_call0_v8 : Ref sig .tc := ⟨.hbm, 65, rfl⟩
abbrev main_call0_call0_call0_c_1 : Ref sig .tc := ⟨.hbm, 66, rfl⟩
abbrev main_call0_call0_call0_v9 : Ref sig .tc := ⟨.hbm, 67, rfl⟩
abbrev main_call0_call0_call0_v10 : Ref sig .tc := ⟨.hbm, 68, rfl⟩
abbrev main_call0_call0_call0_v11 : Ref sig .tc := ⟨.hbm, 69, rfl⟩
abbrev main_call0_call0_call0_v12 : Ref sig .tc := ⟨.hbm, 70, rfl⟩
abbrev main_call0_call0_call0_v13 : Ref sig .tc := ⟨.hbm, 71, rfl⟩
abbrev main_call0_call0_call0_c_2 : Ref sig .tc := ⟨.hbm, 72, rfl⟩
abbrev main_call0_call0_call0_v14 : Ref sig .tc := ⟨.hbm, 73, rfl⟩
abbrev main_call0_call0_call0_v15 : Ref sig .tc := ⟨.hbm, 74, rfl⟩
abbrev main_call0_call0_call0_c_3 : Ref sig .tc := ⟨.hbm, 75, rfl⟩
abbrev main_call0_call0_call0_v16 : Ref sig .tc := ⟨.hbm, 76, rfl⟩
abbrev main_call0_call0_call0_v17 : Ref sig .tc := ⟨.hbm, 77, rfl⟩
abbrev main_call0_call0_call0_v18 : Ref sig .tc := ⟨.hbm, 78, rfl⟩
abbrev main_call0_call0_call0_v19 : Ref sig .tc := ⟨.hbm, 79, rfl⟩
abbrev main_call0_call0_call0_v20 : Ref sig .tc := ⟨.hbm, 80, rfl⟩
abbrev main_call0_call0_call0_c_4 : Ref sig .tc := ⟨.hbm, 81, rfl⟩
abbrev main_call0_call0_call0_v21 : Ref sig .tc := ⟨.hbm, 82, rfl⟩
abbrev main_call0_call0_call0_v22 : Ref sig .tc := ⟨.hbm, 83, rfl⟩
abbrev main_call0_call0_call0_c_5 : Ref sig .tc := ⟨.hbm, 84, rfl⟩
abbrev main_call0_call0_call0_v23 : Ref sig .tc := ⟨.hbm, 85, rfl⟩
abbrev main_call0_call0_call0_v24 : Ref sig .tc := ⟨.hbm, 86, rfl⟩
abbrev main_call0_call0_call0_v25 : Ref sig .tc := ⟨.hbm, 87, rfl⟩
abbrev main_call0_call0_call0_v26 : Ref sig .tc := ⟨.hbm, 88, rfl⟩
abbrev main_call0_call0_call0_v27 : Ref sig .tc := ⟨.hbm, 89, rfl⟩
abbrev main_call0_call0_call0_c_6 : Ref sig .tc := ⟨.hbm, 90, rfl⟩
abbrev main_call0_call0_call0_v28 : Ref sig .tc := ⟨.hbm, 91, rfl⟩
abbrev main_call0_call0_call0_v29 : Ref sig .tc := ⟨.hbm, 92, rfl⟩
abbrev main_call0_call0_call0_c_7 : Ref sig .tc := ⟨.hbm, 93, rfl⟩
abbrev main_call0_call0_call0_v30 : Ref sig .tc := ⟨.hbm, 94, rfl⟩
abbrev main_call0_call0_call0_v31 : Ref sig .tc := ⟨.hbm, 95, rfl⟩
abbrev main_call0_call0_call0_v32 : Ref sig .tc := ⟨.hbm, 96, rfl⟩
abbrev main_call0_call0_call0_v33 : Ref sig .tc := ⟨.hbm, 97, rfl⟩
abbrev main_call0_call0_call0_v34 : Ref sig .tc := ⟨.hbm, 98, rfl⟩
abbrev main_call0_call0_call0_v35 : Ref sig .tc := ⟨.hbm, 99, rfl⟩
abbrev main_call0_call0_call0_v36 : Ref sig .tc := ⟨.hbm, 100, rfl⟩
abbrev main_call0_call0_call0_v37 : Ref sig .tc := ⟨.hbm, 101, rfl⟩
abbrev main_call0_call0_call0_c_8 : Ref sig .tc := ⟨.hbm, 102, rfl⟩
abbrev main_call0_call0_call0_v38 : Ref sig .tc := ⟨.hbm, 103, rfl⟩
abbrev main_call0_call0_call0_v39 : Ref sig .tc := ⟨.hbm, 104, rfl⟩
abbrev main_call0_call0_call0_v40 : Ref sig .tc := ⟨.hbm, 105, rfl⟩
abbrev main_call0_call0_call0_c_9 : Ref sig .tc := ⟨.hbm, 106, rfl⟩
abbrev main_call0_call0_call0_v41 : Ref sig .tc := ⟨.hbm, 107, rfl⟩
abbrev main_call0_call0_call0_v42 : Ref sig .tc := ⟨.hbm, 108, rfl⟩
abbrev main_call0_call0_call0_c_10 : Ref sig .tc := ⟨.hbm, 109, rfl⟩
abbrev main_call0_call0_call0_v43 : Ref sig .tc := ⟨.hbm, 110, rfl⟩
abbrev main_call0_call0_call0_v44 : Ref sig .tc := ⟨.hbm, 111, rfl⟩
abbrev main_call0_call0_call0_v45 : Ref sig .tc := ⟨.hbm, 112, rfl⟩
abbrev main_call0_call0_call0_v46 : Ref sig .tc := ⟨.hbm, 113, rfl⟩
abbrev main_call0_call0_call0_v47 : Ref sig .tc := ⟨.hbm, 114, rfl⟩
abbrev main_call0_call0_call0_c_11 : Ref sig .tc := ⟨.hbm, 115, rfl⟩
abbrev main_call0_call0_call0_v48 : Ref sig .tc := ⟨.hbm, 116, rfl⟩
abbrev main_call0_call0_call0_v49 : Ref sig .tc := ⟨.hbm, 117, rfl⟩
abbrev main_call0_call0_call0_c_12 : Ref sig .tc := ⟨.hbm, 118, rfl⟩
abbrev main_call0_call0_call0_v50 : Ref sig .tc := ⟨.hbm, 119, rfl⟩
abbrev main_call0_call0_call0_v51 : Ref sig .tc := ⟨.hbm, 120, rfl⟩
abbrev main_call0_call0_call0_v52 : Ref sig .tc := ⟨.hbm, 121, rfl⟩
abbrev main_call0_call0_call0_v53 : Ref sig .tc := ⟨.hbm, 122, rfl⟩
abbrev main_call0_call0_call0_v54 : Ref sig .tc := ⟨.hbm, 123, rfl⟩
abbrev main_call0_call0_call0_c_13 : Ref sig .tc := ⟨.hbm, 124, rfl⟩
abbrev main_call0_call0_call0_v55 : Ref sig .tc := ⟨.hbm, 125, rfl⟩
abbrev main_call0_call0_call0_v56 : Ref sig .tc := ⟨.hbm, 126, rfl⟩
abbrev main_call0_call0_call0_c_14 : Ref sig .tc := ⟨.hbm, 127, rfl⟩
abbrev main_call0_call0_call0_v57 : Ref sig .tc := ⟨.hbm, 128, rfl⟩
abbrev main_call0_call0_call0_v58 : Ref sig .tc := ⟨.hbm, 129, rfl⟩
abbrev main_call0_call0_call0_v59 : Ref sig .tc := ⟨.hbm, 130, rfl⟩
abbrev main_call0_call0_call0_v60 : Ref sig .tc := ⟨.hbm, 131, rfl⟩
abbrev main_call0_call0_call0_v61 : Ref sig .tc := ⟨.hbm, 132, rfl⟩
abbrev main_call0_call0_call0_c_15 : Ref sig .tc := ⟨.hbm, 133, rfl⟩
abbrev main_call0_call0_call0_v62 : Ref sig .tc := ⟨.hbm, 134, rfl⟩
abbrev main_call0_call0_call0_v63 : Ref sig .tc := ⟨.hbm, 135, rfl⟩
abbrev main_call0_call0_call0_c_16 : Ref sig .tc := ⟨.hbm, 136, rfl⟩
abbrev main_call0_call0_call0_v64 : Ref sig .tc := ⟨.hbm, 137, rfl⟩
abbrev main_call0_call0_call0_v65 : Ref sig .tc := ⟨.hbm, 138, rfl⟩
abbrev main_call0_call0_call0_v66 : Ref sig .tc := ⟨.hbm, 139, rfl⟩
abbrev main_call0_call0_call0_v67 : Ref sig .tc := ⟨.hbm, 140, rfl⟩
abbrev main_call0_call0_call0_v68 : Ref sig .tc := ⟨.hbm, 141, rfl⟩
abbrev main_call0_call0_call0_v69 : Ref sig .tc := ⟨.hbm, 142, rfl⟩
abbrev main_call0_call0_call0_v70 : Ref sig .tc := ⟨.hbm, 143, rfl⟩
abbrev main_call0_call0_call0_v71 : Ref sig .tc := ⟨.hbm, 144, rfl⟩
abbrev main_call0_call0_call0_c_17 : Ref sig .tc := ⟨.hbm, 145, rfl⟩
abbrev main_call0_call0_call0_v72 : Ref sig .tc := ⟨.hbm, 146, rfl⟩
abbrev main_call0_call0_call0_v73 : Ref sig .tc := ⟨.hbm, 147, rfl⟩
abbrev main_call0_call0_call0_v74 : Ref sig .tc := ⟨.hbm, 148, rfl⟩
abbrev main_call0_call0_call0_c_18 : Ref sig .tc := ⟨.hbm, 149, rfl⟩
abbrev main_call0_call0_call0_v75 : Ref sig .tc := ⟨.hbm, 150, rfl⟩
abbrev main_call0_call0_call0_v76 : Ref sig .tc := ⟨.hbm, 151, rfl⟩
abbrev main_call0_call0_call0_c_19 : Ref sig .tc := ⟨.hbm, 152, rfl⟩
abbrev main_call0_call0_call0_v77 : Ref sig .tc := ⟨.hbm, 153, rfl⟩
abbrev main_call0_call0_call0_v78 : Ref sig .tc := ⟨.hbm, 154, rfl⟩
abbrev main_call0_call0_call0_v79 : Ref sig .tc := ⟨.hbm, 155, rfl⟩
abbrev main_call0_call0_call0_v80 : Ref sig .tc := ⟨.hbm, 156, rfl⟩
abbrev main_call0_call0_call0_v81 : Ref sig .tc := ⟨.hbm, 157, rfl⟩
abbrev main_call0_call0_call0_c_20 : Ref sig .tc := ⟨.hbm, 158, rfl⟩
abbrev main_call0_call0_call0_v82 : Ref sig .tc := ⟨.hbm, 159, rfl⟩
abbrev main_call0_call0_call0_v83 : Ref sig .tc := ⟨.hbm, 160, rfl⟩
abbrev main_call0_call0_call0_c_21 : Ref sig .tc := ⟨.hbm, 161, rfl⟩
abbrev main_call0_call0_call0_v84 : Ref sig .tc := ⟨.hbm, 162, rfl⟩
abbrev main_call0_call0_call0_v85 : Ref sig .tc := ⟨.hbm, 163, rfl⟩
abbrev main_call0_call0_call0_v86 : Ref sig .tc := ⟨.hbm, 164, rfl⟩
abbrev main_call0_call0_call0_v87 : Ref sig .tc := ⟨.hbm, 165, rfl⟩
abbrev main_call0_call0_call0_v88 : Ref sig .tc := ⟨.hbm, 166, rfl⟩
abbrev main_call0_call0_call0_c_22 : Ref sig .tc := ⟨.hbm, 167, rfl⟩
abbrev main_call0_call0_call0_v89 : Ref sig .tc := ⟨.hbm, 168, rfl⟩
abbrev main_call0_call0_call0_v90 : Ref sig .tc := ⟨.hbm, 169, rfl⟩
abbrev main_call0_call0_call0_c_23 : Ref sig .tc := ⟨.hbm, 170, rfl⟩
abbrev main_call0_call0_call0_v91 : Ref sig .tc := ⟨.hbm, 171, rfl⟩
abbrev main_call0_call0_call0_v92 : Ref sig .tc := ⟨.hbm, 172, rfl⟩
abbrev main_call0_call0_call0_v93 : Ref sig .tc := ⟨.hbm, 173, rfl⟩
abbrev main_call0_call0_call0_v94 : Ref sig .tc := ⟨.hbm, 174, rfl⟩
abbrev main_call0_call0_call0_v95 : Ref sig .tc := ⟨.hbm, 175, rfl⟩
abbrev main_call0_call0_call0_c_24 : Ref sig .tc := ⟨.hbm, 176, rfl⟩
abbrev main_call0_call0_call0_v96 : Ref sig .tc := ⟨.hbm, 177, rfl⟩
abbrev main_call0_call0_call0_v97 : Ref sig .tc := ⟨.hbm, 178, rfl⟩
abbrev main_call0_call0_call0_c_25 : Ref sig .tc := ⟨.hbm, 179, rfl⟩
abbrev main_call0_call0_call0_v98 : Ref sig .tc := ⟨.hbm, 180, rfl⟩
abbrev main_call0_call0_call0_v99 : Ref sig .tc := ⟨.hbm, 181, rfl⟩
abbrev main_call0_call0_call0_v100 : Ref sig .tc := ⟨.hbm, 182, rfl⟩
abbrev main_call0_call0_call0_v101 : Ref sig .tc := ⟨.hbm, 183, rfl⟩
abbrev main_call0_call0_call0_v102 : Ref sig .tc := ⟨.hbm, 184, rfl⟩
abbrev main_call0_call0_call0_v103 : Ref sig .tc := ⟨.hbm, 185, rfl⟩
abbrev main_call0_call0_call0_v104 : Ref sig .tc := ⟨.hbm, 186, rfl⟩
abbrev main_call0_call0_call0_v105 : Ref sig .tc := ⟨.hbm, 187, rfl⟩
abbrev main_call0_call0_call0_c_26 : Ref sig .tc := ⟨.hbm, 188, rfl⟩
abbrev main_call0_call0_call0_v106 : Ref sig .tc := ⟨.hbm, 189, rfl⟩
abbrev main_call0_call0_call0_v107 : Ref sig .tc := ⟨.hbm, 190, rfl⟩
abbrev main_call0_call0_call0_v108 : Ref sig .tc := ⟨.hbm, 191, rfl⟩
abbrev main_call0_call0_call0_c_27 : Ref sig .tc := ⟨.hbm, 192, rfl⟩
abbrev main_call0_call0_call0_v109 : Ref sig .tc := ⟨.hbm, 193, rfl⟩
abbrev main_call0_call0_call0_v110 : Ref sig .tc := ⟨.hbm, 194, rfl⟩
abbrev main_call0_call0_call0_c_28 : Ref sig .tc := ⟨.hbm, 195, rfl⟩
abbrev main_call0_call0_call0_v111 : Ref sig .tc := ⟨.hbm, 196, rfl⟩
abbrev main_call0_call0_call0_v112 : Ref sig .tc := ⟨.hbm, 197, rfl⟩
abbrev main_call0_call0_call0_v113 : Ref sig .tc := ⟨.hbm, 198, rfl⟩
abbrev main_call0_call0_call0_v114 : Ref sig .tc := ⟨.hbm, 199, rfl⟩
abbrev main_call0_call0_call0_v115 : Ref sig .tc := ⟨.hbm, 200, rfl⟩
abbrev main_call0_call0_call0_c_29 : Ref sig .tc := ⟨.hbm, 201, rfl⟩
abbrev main_call0_call0_call0_v116 : Ref sig .tc := ⟨.hbm, 202, rfl⟩
abbrev main_call0_call0_call0_v117 : Ref sig .tc := ⟨.hbm, 203, rfl⟩
abbrev main_call0_call0_call0_c_30 : Ref sig .tc := ⟨.hbm, 204, rfl⟩
abbrev main_call0_call0_call0_v118 : Ref sig .tc := ⟨.hbm, 205, rfl⟩
abbrev main_call0_call0_call0_v119 : Ref sig .tc := ⟨.hbm, 206, rfl⟩
abbrev main_call0_call0_call0_v120 : Ref sig .tc := ⟨.hbm, 207, rfl⟩
abbrev main_call0_call0_call0_v121 : Ref sig .tc := ⟨.hbm, 208, rfl⟩
abbrev main_call0_call0_call0_v122 : Ref sig .tc := ⟨.hbm, 209, rfl⟩
abbrev main_call0_call0_call0_c_31 : Ref sig .tc := ⟨.hbm, 210, rfl⟩
abbrev main_call0_call0_call0_v123 : Ref sig .tc := ⟨.hbm, 211, rfl⟩
abbrev main_call0_call0_call0_v124 : Ref sig .tc := ⟨.hbm, 212, rfl⟩
abbrev main_call0_call0_call0_c_32 : Ref sig .tc := ⟨.hbm, 213, rfl⟩
abbrev main_call0_call0_call0_v125 : Ref sig .tc := ⟨.hbm, 214, rfl⟩
abbrev main_call0_call0_call0_v126 : Ref sig .tc := ⟨.hbm, 215, rfl⟩
abbrev main_call0_call0_call0_v127 : Ref sig .tc := ⟨.hbm, 216, rfl⟩
abbrev main_call0_call0_call0_v128 : Ref sig .tc := ⟨.hbm, 217, rfl⟩
abbrev main_call0_call0_call0_v129 : Ref sig .tc := ⟨.hbm, 218, rfl⟩
abbrev main_call0_call0_call0_c_33 : Ref sig .tc := ⟨.hbm, 219, rfl⟩
abbrev main_call0_call0_call0_v130 : Ref sig .tc := ⟨.hbm, 220, rfl⟩
abbrev main_call0_call0_call0_v131 : Ref sig .tc := ⟨.hbm, 221, rfl⟩
abbrev main_call0_call0_call0_c_34 : Ref sig .tc := ⟨.hbm, 222, rfl⟩
abbrev main_call0_call0_call0_v132 : Ref sig .tc := ⟨.hbm, 223, rfl⟩
abbrev main_call0_call0_call0_v133 : Ref sig .tc := ⟨.hbm, 224, rfl⟩
abbrev main_call0_call0_call0_v134 : Ref sig .tc := ⟨.hbm, 225, rfl⟩
abbrev main_call0_call0_call0_v135 : Ref sig .tc := ⟨.hbm, 226, rfl⟩
abbrev main_call0_call0_call0_v136 : Ref sig .tc := ⟨.hbm, 227, rfl⟩
abbrev main_call0_call0_call0_v137 : Ref sig .tc := ⟨.hbm, 228, rfl⟩
abbrev main_call0_call0_call0_v138 : Ref sig .tc := ⟨.hbm, 229, rfl⟩
abbrev main_call0_call0_call0_v139 : Ref sig .tc := ⟨.hbm, 230, rfl⟩
abbrev main_call0_call0_call0_c_35 : Ref sig .tc := ⟨.hbm, 231, rfl⟩
abbrev main_call0_call0_call0_v140 : Ref sig .tc := ⟨.hbm, 232, rfl⟩
abbrev main_call0_call0_call0_v141 : Ref sig .tc := ⟨.hbm, 233, rfl⟩
abbrev main_call0_call0_call0_v142 : Ref sig .tc := ⟨.hbm, 234, rfl⟩
abbrev main_call0_call0_call0_c_36 : Ref sig .tc := ⟨.hbm, 235, rfl⟩
abbrev main_call0_call0_call0_v143 : Ref sig .tc := ⟨.hbm, 236, rfl⟩
abbrev main_call0_call0_call0_v144 : Ref sig .tc := ⟨.hbm, 237, rfl⟩
abbrev main_call0_call0_call0_c_37 : Ref sig .tc := ⟨.hbm, 238, rfl⟩
abbrev main_call0_call0_call0_v145 : Ref sig .tc := ⟨.hbm, 239, rfl⟩
abbrev main_call0_call0_call0_v146 : Ref sig .tc := ⟨.hbm, 240, rfl⟩
abbrev main_call0_call0_call0_v147 : Ref sig .tc := ⟨.hbm, 241, rfl⟩
abbrev main_call0_call0_call0_v148 : Ref sig .tc := ⟨.hbm, 242, rfl⟩
abbrev main_call0_call0_call0_v149 : Ref sig .tc := ⟨.hbm, 243, rfl⟩
abbrev main_call0_call0_call0_c_38 : Ref sig .tc := ⟨.hbm, 244, rfl⟩
abbrev main_call0_call0_call0_v150 : Ref sig .tc := ⟨.hbm, 245, rfl⟩
abbrev main_call0_call0_call0_v151 : Ref sig .tc := ⟨.hbm, 246, rfl⟩
abbrev main_call0_call0_call0_c_39 : Ref sig .tc := ⟨.hbm, 247, rfl⟩
abbrev main_call0_call0_call0_v152 : Ref sig .tc := ⟨.hbm, 248, rfl⟩
abbrev main_call0_call0_call0_v153 : Ref sig .tc := ⟨.hbm, 249, rfl⟩
abbrev main_call0_call0_call0_v154 : Ref sig .tc := ⟨.hbm, 250, rfl⟩
abbrev main_call0_call0_call0_v155 : Ref sig .tc := ⟨.hbm, 251, rfl⟩
abbrev main_call0_call0_call0_v156 : Ref sig .tc := ⟨.hbm, 252, rfl⟩
abbrev main_call0_call0_call0_c_40 : Ref sig .tc := ⟨.hbm, 253, rfl⟩
abbrev main_call0_call0_call0_v157 : Ref sig .tc := ⟨.hbm, 254, rfl⟩
abbrev main_call0_call0_call0_v158 : Ref sig .tc := ⟨.hbm, 255, rfl⟩
abbrev main_call0_call0_call0_c_41 : Ref sig .tc := ⟨.hbm, 256, rfl⟩
abbrev main_call0_call0_call0_v159 : Ref sig .tc := ⟨.hbm, 257, rfl⟩
abbrev main_call0_call0_call0_v160 : Ref sig .tc := ⟨.hbm, 258, rfl⟩
abbrev main_call0_call0_call0_v161 : Ref sig .tc := ⟨.hbm, 259, rfl⟩
abbrev main_call0_call0_call0_v162 : Ref sig .tc := ⟨.hbm, 260, rfl⟩
abbrev main_call0_call0_call0_v163 : Ref sig .tc := ⟨.hbm, 261, rfl⟩
abbrev main_call0_call0_call0_c_42 : Ref sig .tc := ⟨.hbm, 262, rfl⟩
abbrev main_call0_call0_call0_v164 : Ref sig .tc := ⟨.hbm, 263, rfl⟩
abbrev main_call0_call0_call0_v165 : Ref sig .tc := ⟨.hbm, 264, rfl⟩
abbrev main_call0_call0_call0_c_43 : Ref sig .tc := ⟨.hbm, 265, rfl⟩
abbrev main_call0_call0_call0_v166 : Ref sig .tc := ⟨.hbm, 266, rfl⟩
abbrev main_call0_call0_call0_v167 : Ref sig .tc := ⟨.hbm, 267, rfl⟩
abbrev main_call0_call0_call0_v168 : Ref sig .tc := ⟨.hbm, 268, rfl⟩
abbrev main_call0_call0_call0_v169 : Ref sig .tc := ⟨.hbm, 269, rfl⟩
abbrev main_call0_call0_call0_v170 : Ref sig .tc := ⟨.hbm, 270, rfl⟩
abbrev main_call0_call0_v18_0 : Ref sig .tc := ⟨.hbm, 271, rfl⟩
abbrev main_call0_call0_call0_v172 : Ref sig .tc := ⟨.hbm, 272, rfl⟩
abbrev main_call0_call0_call0_v173 : Ref sig .tc := ⟨.hbm, 273, rfl⟩
abbrev main_call0_call0_call0_c_44 : Ref sig .tc := ⟨.hbm, 274, rfl⟩
abbrev main_call0_call0_call0_v174 : Ref sig .tc := ⟨.hbm, 275, rfl⟩
abbrev main_call0_call0_v18_1 : Ref sig .tc := ⟨.hbm, 276, rfl⟩
abbrev main_call0_call0_v19 : Ref sig .tc := ⟨.hbm, 277, rfl⟩
abbrev main_call0_call0_c_2 : Ref sig .tc := ⟨.hbm, 278, rfl⟩
abbrev main_call0_call0_v20 : Ref sig .tc := ⟨.hbm, 279, rfl⟩
abbrev main_call0_call0_v21 : Ref sig .tc := ⟨.hbm, 280, rfl⟩
abbrev main_call0_call0_c_3 : Ref sig .tc := ⟨.hbm, 281, rfl⟩
abbrev main_call0_call0_v22 : Ref sig .tc := ⟨.hbm, 282, rfl⟩
abbrev main_call0_call0_v23 : Ref sig .tc := ⟨.hbm, 283, rfl⟩
abbrev main_call0_call0_v24 : Ref sig .tc := ⟨.hbm, 284, rfl⟩
abbrev main_call0_call0_cst : Ref sig .tc := ⟨.hbm, 285, rfl⟩
abbrev main_call0_call0_v25 : Ref sig .tc := ⟨.hbm, 286, rfl⟩
abbrev main_call0_call0_v26 : Ref sig .tc := ⟨.hbm, 287, rfl⟩
abbrev main_call0_call0_v27 : Ref sig .tc := ⟨.hbm, 288, rfl⟩
abbrev main_call0_call0_v28 : Ref sig .tc := ⟨.hbm, 289, rfl⟩
abbrev main_call0_call0_v29 : Ref sig .tc := ⟨.hbm, 290, rfl⟩
abbrev main_call0_call0_v30 : Ref sig .tc := ⟨.hbm, 291, rfl⟩
abbrev main_call0_call0_v31 : Ref sig .tc := ⟨.hbm, 292, rfl⟩
abbrev main_call0_call0_v32 : Ref sig .tc := ⟨.hbm, 293, rfl⟩
abbrev main_call0_v0 : Ref sig .tc := ⟨.hbm, 294, rfl⟩
abbrev main_call0_v1 : Ref sig .tc := ⟨.hbm, 295, rfl⟩
abbrev main_call0_v2 : Ref sig .tc := ⟨.hbm, 296, rfl⟩
abbrev main_call0_v3 : Ref sig .tc := ⟨.hbm, 297, rfl⟩
abbrev main_v16 : Ref sig .tc := ⟨.hbm, 298, rfl⟩
abbrev main_v17 : Ref sig .tc := ⟨.hbm, 299, rfl⟩
abbrev main_v18 : Ref sig .tc := ⟨.hbm, 300, rfl⟩
abbrev main_v19 : Ref sig .tc := ⟨.hbm, 301, rfl⟩
abbrev main_v20 : Ref sig .tc := ⟨.hbm, 302, rfl⟩
abbrev main_v21 : Ref sig .tc := ⟨.hbm, 303, rfl⟩
abbrev main_v22 : Ref sig .tc := ⟨.hbm, 304, rfl⟩
abbrev main_v23 : Ref sig .tc := ⟨.hbm, 305, rfl⟩
abbrev main_v24 : Ref sig .tc := ⟨.hbm, 306, rfl⟩
abbrev main_v25_0 : Ref sig .tc := ⟨.hbm, 307, rfl⟩
abbrev main_v25_1 : Ref sig .tc := ⟨.hbm, 308, rfl⟩
abbrev main_v25_2 : Ref sig .tc := ⟨.hbm, 309, rfl⟩
abbrev main_v25_3 : Ref sig .tc := ⟨.hbm, 310, rfl⟩
abbrev main_v26 : Ref sig .tc := ⟨.hbm, 311, rfl⟩
abbrev main_v27 : Ref sig .tc := ⟨.hbm, 312, rfl⟩
abbrev main_v28 : Ref sig .tc := ⟨.hbm, 313, rfl⟩
abbrev main_v29 : Ref sig .tc := ⟨.hbm, 314, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x10 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x10 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x10 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ReferenceIdeal.lean ====
abbrev S16x1024x1024 : Shape := ⟨3, ![16, 1024, 1024]⟩
abbrev S16x1024x1x4x512 : Shape := ⟨5, ![16, 1024, 1, 4, 512]⟩
abbrev S16x1024x6x512 : Shape := ⟨4, ![16, 1024, 6, 512]⟩
abbrev S16x1024x4 : Shape := ⟨3, ![16, 1024, 4]⟩
abbrev S16x1024x6 : Shape := ⟨3, ![16, 1024, 6]⟩
abbrev S1024x512 : Shape := ⟨2, ![1024, 512]⟩
abbrev S512x512 : Shape := ⟨2, ![512, 512]⟩
abbrev S512 : Shape := ⟨1, ![512]⟩
abbrev S512x1024 : Shape := ⟨2, ![512, 1024]⟩
abbrev S1024 : Shape := ⟨1, ![1024]⟩
abbrev S16x1024x4x512 : Shape := ⟨4, ![16, 1024, 4, 512]⟩
abbrev S16x1024x512 : Shape := ⟨3, ![16, 1024, 512]⟩
abbrev S_ : Shape := ⟨0, ![]⟩
abbrev S16x1024x10x512 : Shape := ⟨4, ![16, 1024, 10, 512]⟩
abbrev S16x1024x10 : Shape := ⟨3, ![16, 1024, 10]⟩
abbrev S16x1024 : Shape := ⟨2, ![16, 1024]⟩
abbrev S16x1024x1 : Shape := ⟨3, ![16, 1024, 1]⟩
abbrev S16384x10 : Shape := ⟨2, ![16384, 10]⟩
abbrev S1 : Shape := ⟨1, ![1]⟩
abbrev S2 : Shape := ⟨1, ![2]⟩
abbrev S1x1 : Shape := ⟨2, ![1, 1]⟩
abbrev S16384 : Shape := ⟨1, ![16384]⟩
abbrev S16384x10x512 : Shape := ⟨3, ![16384, 10, 512]⟩
abbrev S16384x1x1 : Shape := ⟨3, ![16384, 1, 1]⟩
abbrev S1x1x1 : Shape := ⟨3, ![1, 1, 1]⟩
abbrev S16384x1 : Shape := ⟨2, ![16384, 1]⟩
abbrev S16384x1x512 : Shape := ⟨3, ![16384, 1, 512]⟩
abbrev S1x1x512 : Shape := ⟨3, ![1, 1, 512]⟩
abbrev S1x1x1024 : Shape := ⟨3, ![1, 1, 1024]⟩

abbrev nBuf : Space → Nat
  | .hbm => 374
  | .vmem => 0
  | .smem => 0
  | _ => 0

abbrev hbmTy0_0 (i : Nat) : BufTy := match i % 128 with
  | 0 => ⟨S16x1024x1024, .f32⟩
  | 1 => ⟨S16x1024x1x4x512, .f32⟩
  | 2 => ⟨S16x1024x6x512, .f32⟩
  | 3 => ⟨S16x1024x4, .i1⟩
  | 4 => ⟨S16x1024x6, .i1⟩
  | 5 => ⟨S1024x512, .f32⟩
  | 6 => ⟨S512x512, .f32⟩
  | 7 => ⟨S1024x512, .f32⟩
  | 8 => ⟨S512x512, .f32⟩
  | 9 => ⟨S512x512, .f32⟩
  | 10 => ⟨S512, .f32⟩
  | 11 => ⟨S512x1024, .f32⟩
  | 12 => ⟨S1024, .f32⟩
  | 13 => ⟨S16x1024x4x512, .f32⟩
  | 14 => ⟨S16x1024x512, .f32⟩
  | 15 => ⟨S16x1024x4x512, .f32⟩
  | 16 => ⟨S16x1024x4, .f32⟩
  | 17 => ⟨S_, .f32⟩
  | 18 => ⟨S16x1024x4, .f32⟩
  | 19 => ⟨S16x1024x4, .f32⟩
  | 20 => ⟨S16x1024x512, .f32⟩
  | 21 => ⟨S16x1024x6x512, .f32⟩
  | 22 => ⟨S16x1024x6, .f32⟩
  | 23 => ⟨S_, .f32⟩
  | 24 => ⟨S16x1024x6, .f32⟩
  | 25 => ⟨S16x1024x6, .f32⟩
  | 26 => ⟨S16x1024x10x512, .f32⟩
  | 27 => ⟨S16x1024x10, .i1⟩
  | 28 => ⟨S16x1024x10, .f32⟩
  | 29 => ⟨S_, .f32⟩
  | 30 => ⟨S16x1024x10, .f32⟩
  | 31 => ⟨S16x1024x10, .f32⟩
  | 32 => ⟨S_, .f32⟩
  | 33 => ⟨S16x1024x10, .f32⟩
  | 34 => ⟨S16x1024x10, .f32⟩
  | 35 => ⟨S_, .f32⟩
  | 36 => ⟨S16x1024, .f32⟩
  | 37 => ⟨S16x1024x1, .f32⟩
  | 38 => ⟨S16x1024x10, .f32⟩
  | 39 => ⟨S16x1024x10, .f32⟩
  | 40 => ⟨S16x1024x10, .f32⟩
  | 41 => ⟨S16x1024x10, .f32⟩
  | 42 => ⟨S16x1024x10, .f32⟩
  | 43 => ⟨S_, .f32⟩
  | 44 => ⟨S16x1024, .f32⟩
  | 45 => ⟨S16x1024x1, .f32⟩
  | 46 => ⟨S16x1024x10, .f32⟩
  | 47 => ⟨S16x1024x10, .f32⟩
  | 48 => ⟨S16384x10, .f32⟩
  | 49 => ⟨S_, .i32⟩
  | 50 => ⟨S_, .i32⟩
  | 51 => ⟨S_, .i32⟩
  | 52 => ⟨S_, .i32⟩
  | 53 => ⟨S1, .i32⟩
  | 54 => ⟨S_, .i32⟩
  | 55 => ⟨S_, .i32⟩
  | 56 => ⟨S_, .i32⟩
  | 57 => ⟨S1, .i32⟩
  | 58 => ⟨S2, .i32⟩
  | 59 => ⟨S_, .f32⟩
  | 60 => ⟨S16384x10, .f32⟩
  | 61 => ⟨S16384x10, .f32⟩
  | 62 => ⟨S16384x10, .f32⟩
  | 63 => ⟨S_, .f32⟩
  | 64 => ⟨S_, .f32⟩
  | 65 => ⟨S_, .f32⟩
  | 66 => ⟨S1x1, .f32⟩
  | 67 => ⟨S1x1, .f32⟩
  | 68 => ⟨S1, .i32⟩
  | 69 => ⟨S_, .i32⟩
  | 70 => ⟨S1, .i32⟩
  | 71 => ⟨S_, .i32⟩
  | 72 => ⟨S16384x10, .i64⟩
  | 73 => ⟨S16384x10, .i64⟩
  | 74 => ⟨S_, .i64⟩
  | 75 => ⟨S16384x10, .i64⟩
  | 76 => ⟨S16384x10, .i64⟩
  | 77 => ⟨S_, .i64⟩
  | 78 => ⟨S16384x10, .i64⟩
  | 79 => ⟨S16384x10, .i64⟩
  | 80 => ⟨S16384x10, .i64⟩
  | 81 => ⟨S_, .i64⟩
  | 82 => ⟨S16384x10, .i64⟩
  | 83 => ⟨S16384x10, .i64⟩
  | 84 => ⟨S16384x10, .i32⟩
  | 85 => ⟨S16384x10, .i32⟩
  | 86 => ⟨S_, .i32⟩
  | 87 => ⟨S_, .i32⟩
  | 88 => ⟨S_, .i32⟩
  | 89 => ⟨S16384x10, .i32⟩
  | 90 => ⟨S16384x10, .i32⟩
  | 91 => ⟨S16384x10, .i32⟩
  | 92 => ⟨S16384x10, .i32⟩
  | 93 => ⟨S16384x10, .i32⟩
  | 94 => ⟨S_, .i32⟩
  | 95 => ⟨S16384x10, .i32⟩
  | 96 => ⟨S16384x10, .i32⟩
  | 97 => ⟨S_, .i32⟩
  | 98 => ⟨S16384x10, .i32⟩
  | 99 => ⟨S16384x10, .i32⟩
  | 100 => ⟨S16384x10, .i32⟩
  | 101 => ⟨S16384x10, .i32⟩
  | 102 => ⟨S16384x10, .i32⟩
  | 103 => ⟨S_, .i32⟩
  | 104 => ⟨S16384x10, .i32⟩
  | 105 => ⟨S16384x10, .i32⟩
  | 106 => ⟨S_, .i32⟩
  | 107 => ⟨S16384x10, .i32⟩
  | 108 => ⟨S16384x10, .i32⟩
  | 109 => ⟨S16384x10, .i32⟩
  | 110 => ⟨S16384x10, .i32⟩
  | 111 => ⟨S16384x10, .i32⟩
  | 112 => ⟨S_, .i32⟩
  | 113 => ⟨S16384x10, .i32⟩
  | 114 => ⟨S16384x10, .i32⟩
  | 115 => ⟨S_, .i32⟩
  | 116 => ⟨S16384x10, .i32⟩
  | 117 => ⟨S16384x10, .i32⟩
  | 118 => ⟨S16384x10, .i32⟩
  | 119 => ⟨S16384x10, .i32⟩
  | 120 => ⟨S16384x10, .i32⟩
  | 121 => ⟨S_, .i32⟩
  | 122 => ⟨S16384x10, .i32⟩
  | 123 => ⟨S16384x10, .i32⟩
  | 124 => ⟨S_, .i32⟩
  | 125 => ⟨S16384x10, .i32⟩
  | 126 => ⟨S16384x10, .i32⟩
  | 127 => ⟨S16384x10, .i32⟩
  | _ => ⟨S16x1024x1024, .f32⟩

abbrev hbmTy0_1 (i : Nat) : BufTy := match i % 128 with
  | 0 => ⟨S16384x10, .i32⟩
  | 1 => ⟨S16384x10, .i32⟩
  | 2 => ⟨S16384x10, .i32⟩
  | 3 => ⟨S16384x10, .i32⟩
  | 4 => ⟨S16384x10, .i32⟩
  | 5 => ⟨S_, .i32⟩
  | 6 => ⟨S16384x10, .i32⟩
  | 7 => ⟨S16384x10, .i32⟩
  | 8 => ⟨S16384x10, .i32⟩
  | 9 => ⟨S_, .i32⟩
  | 10 => ⟨S16384x10, .i32⟩
  | 11 => ⟨S16384x10, .i32⟩
  | 12 => ⟨S_, .i32⟩
  | 13 => ⟨S16384x10, .i32⟩
  | 14 => ⟨S16384x10, .i32⟩
  | 15 => ⟨S16384x10, .i32⟩
  | 16 => ⟨S16384x10, .i32⟩
  | 17 => ⟨S16384x10, .i32⟩
  | 18 => ⟨S_, .i32⟩
  | 19 => ⟨S16384x10, .i32⟩
  | 20 => ⟨S16384x10, .i32⟩
  | 21 => ⟨S_, .i32⟩
  | 22 => ⟨S16384x10, .i32⟩
  | 23 => ⟨S16384x10, .i32⟩
  | 24 => ⟨S16384x10, .i32⟩
  | 25 => ⟨S16384x10, .i32⟩
  | 26 => ⟨S16384x10, .i32⟩
  | 27 => ⟨S_, .i32⟩
  | 28 => ⟨S16384x10, .i32⟩
  | 29 => ⟨S16384x10, .i32⟩
  | 30 => ⟨S_, .i32⟩
  | 31 => ⟨S16384x10, .i32⟩
  | 32 => ⟨S16384x10, .i32⟩
  | 33 => ⟨S16384x10, .i32⟩
  | 34 => ⟨S16384x10, .i32⟩
  | 35 => ⟨S16384x10, .i32⟩
  | 36 => ⟨S_, .i32⟩
  | 37 => ⟨S16384x10, .i32⟩
  | 38 => ⟨S16384x10, .i32⟩
  | 39 => ⟨S_, .i32⟩
  | 40 => ⟨S16384x10, .i32⟩
  | 41 => ⟨S16384x10, .i32⟩
  | 42 => ⟨S16384x10, .i32⟩
  | 43 => ⟨S16384x10, .i32⟩
  | 44 => ⟨S16384x10, .i32⟩
  | 45 => ⟨S16384x10, .i32⟩
  | 46 => ⟨S16384x10, .i32⟩
  | 47 => ⟨S16384x10, .i32⟩
  | 48 => ⟨S_, .i32⟩
  | 49 => ⟨S16384x10, .i32⟩
  | 50 => ⟨S16384x10, .i32⟩
  | 51 => ⟨S16384x10, .i32⟩
  | 52 => ⟨S_, .i32⟩
  | 53 => ⟨S16384x10, .i32⟩
  | 54 => ⟨S16384x10, .i32⟩
  | 55 => ⟨S_, .i32⟩
  | 56 => ⟨S16384x10, .i32⟩
  | 57 => ⟨S16384x10, .i32⟩
  | 58 => ⟨S16384x10, .i32⟩
  | 59 => ⟨S16384x10, .i32⟩
  | 60 => ⟨S16384x10, .i32⟩
  | 61 => ⟨S_, .i32⟩
  | 62 => ⟨S16384x10, .i32⟩
  | 63 => ⟨S16384x10, .i32⟩
  | 64 => ⟨S_, .i32⟩
  | 65 => ⟨S16384x10, .i32⟩
  | 66 => ⟨S16384x10, .i32⟩
  | 67 => ⟨S16384x10, .i32⟩
  | 68 => ⟨S16384x10, .i32⟩
  | 69 => ⟨S16384x10, .i32⟩
  | 70 => ⟨S_, .i32⟩
  | 71 => ⟨S16384x10, .i32⟩
  | 72 => ⟨S16384x10, .i32⟩
  | 73 => ⟨S_, .i32⟩
  | 74 => ⟨S16384x10, .i32⟩
  | 75 => ⟨S16384x10, .i32⟩
  | 76 => ⟨S16384x10, .i32⟩
  | 77 => ⟨S16384x10, .i32⟩
  | 78 => ⟨S16384x10, .i32⟩
  | 79 => ⟨S_, .i32⟩
  | 80 => ⟨S16384x10, .i32⟩
  | 81 => ⟨S16384x10, .i32⟩
  | 82 => ⟨S_, .i32⟩
  | 83 => ⟨S16384x10, .i32⟩
  | 84 => ⟨S16384x10, .i32⟩
  | 85 => ⟨S16384x10, .i32⟩
  | 86 => ⟨S16384x10, .i32⟩
  | 87 => ⟨S16384x10, .i32⟩
  | 88 => ⟨S16384x10, .i32⟩
  | 89 => ⟨S16384x10, .i32⟩
  | 90 => ⟨S16384x10, .i32⟩
  | 91 => ⟨S_, .i32⟩
  | 92 => ⟨S16384x10, .i32⟩
  | 93 => ⟨S16384x10, .i32⟩
  | 94 => ⟨S16384x10, .i32⟩
  | 95 => ⟨S_, .i32⟩
  | 96 => ⟨S16384x10, .i32⟩
  | 97 => ⟨S16384x10, .i32⟩
  | 98 => ⟨S_, .i32⟩
  | 99 => ⟨S16384x10, .i32⟩
  | 100 => ⟨S16384x10, .i32⟩
  | 101 => ⟨S16384x10, .i32⟩
  | 102 => ⟨S16384x10, .i32⟩
  | 103 => ⟨S16384x10, .i32⟩
  | 104 => ⟨S_, .i32⟩
  | 105 => ⟨S16384x10, .i32⟩
  | 106 => ⟨S16384x10, .i32⟩
  | 107 => ⟨S_, .i32⟩
  | 108 => ⟨S16384x10, .i32⟩
  | 109 => ⟨S16384x10, .i32⟩
  | 110 => ⟨S16384x10, .i32⟩
  | 111 => ⟨S16384x10, .i32⟩
  | 112 => ⟨S16384x10, .i32⟩
  | 113 => ⟨S_, .i32⟩
  | 114 => ⟨S16384x10, .i32⟩
  | 115 => ⟨S16384x10, .i32⟩
  | 116 => ⟨S_, .i32⟩
  | 117 => ⟨S16384x10, .i32⟩
  | 118 => ⟨S16384x10, .i32⟩
  | 119 => ⟨S16384x10, .i32⟩
  | 120 => ⟨S16384x10, .i32⟩
  | 121 => ⟨S16384x10, .i32⟩
  | 122 => ⟨S_, .i32⟩
  | 123 => ⟨S16384x10, .i32⟩
  | 124 => ⟨S16384x10, .i32⟩
  | 125 => ⟨S_, .i32⟩
  | 126 => ⟨S16384x10, .i32⟩
  | 127 => ⟨S16384x10, .i32⟩
  | _ => ⟨S16x1024x1024, .f32⟩

abbrev hbmTy0_2 (i : Nat) : BufTy := match i % 128 with
  | 0 => ⟨S16384x10, .i32⟩
  | 1 => ⟨S16384x10, .i32⟩
  | 2 => ⟨S16384x10, .i32⟩
  | 3 => ⟨S16384x10, .i32⟩
  | 4 => ⟨S16384x10, .i32⟩
  | 5 => ⟨S16384x10, .i32⟩
  | 6 => ⟨S_, .i32⟩
  | 7 => ⟨S16384x10, .i32⟩
  | 8 => ⟨S16384x10, .i32⟩
  | 9 => ⟨S16384x10, .i32⟩
  | 10 => ⟨S_, .i32⟩
  | 11 => ⟨S16384x10, .i32⟩
  | 12 => ⟨S16384x10, .i32⟩
  | 13 => ⟨S_, .i32⟩
  | 14 => ⟨S16384x10, .i32⟩
  | 15 => ⟨S16384x10, .i32⟩
  | 16 => ⟨S16384x10, .i32⟩
  | 17 => ⟨S16384x10, .i32⟩
  | 18 => ⟨S16384x10, .i32⟩
  | 19 => ⟨S_, .i32⟩
  | 20 => ⟨S16384x10, .i32⟩
  | 21 => ⟨S16384x10, .i32⟩
  | 22 => ⟨S_, .i32⟩
  | 23 => ⟨S16384x10, .i32⟩
  | 24 => ⟨S16384x10, .i32⟩
  | 25 => ⟨S16384x10, .i32⟩
  | 26 => ⟨S16384x10, .i32⟩
  | 27 => ⟨S16384x10, .i32⟩
  | 28 => ⟨S_, .i32⟩
  | 29 => ⟨S16384x10, .i32⟩
  | 30 => ⟨S16384x10, .i32⟩
  | 31 => ⟨S_, .i32⟩
  | 32 => ⟨S16384x10, .i32⟩
  | 33 => ⟨S16384x10, .i32⟩
  | 34 => ⟨S16384x10, .i32⟩
  | 35 => ⟨S16384x10, .i32⟩
  | 36 => ⟨S16384x10, .i32⟩
  | 37 => ⟨S_, .i32⟩
  | 38 => ⟨S16384x10, .i32⟩
  | 39 => ⟨S16384x10, .i32⟩
  | 40 => ⟨S_, .i32⟩
  | 41 => ⟨S16384x10, .i32⟩
  | 42 => ⟨S16384x10, .i32⟩
  | 43 => ⟨S16384x10, .i32⟩
  | 44 => ⟨S16384x10, .i32⟩
  | 45 => ⟨S16384x10, .i32⟩
  | 46 => ⟨S16384x10, .i32⟩
  | 47 => ⟨S16384x10, .i32⟩
  | 48 => ⟨S16384x10, .i32⟩
  | 49 => ⟨S_, .i32⟩
  | 50 => ⟨S16384x10, .i32⟩
  | 51 => ⟨S16384x10, .i32⟩
  | 52 => ⟨S16384x10, .i32⟩
  | 53 => ⟨S_, .i32⟩
  | 54 => ⟨S16384x10, .i32⟩
  | 55 => ⟨S16384x10, .i32⟩
  | 56 => ⟨S_, .i32⟩
  | 57 => ⟨S16384x10, .i32⟩
  | 58 => ⟨S16384x10, .i32⟩
  | 59 => ⟨S16384x10, .f32⟩
  | 60 => ⟨S_, .f32⟩
  | 61 => ⟨S16384x10, .f32⟩
  | 62 => ⟨S16384x10, .f32⟩
  | 63 => ⟨S1x1, .f32⟩
  | 64 => ⟨S16384x10, .f32⟩
  | 65 => ⟨S16384x10, .f32⟩
  | 66 => ⟨S16384x10, .f32⟩
  | 67 => ⟨S16384x10, .f32⟩
  | 68 => ⟨S16384x10, .f32⟩
  | 69 => ⟨S16384x10, .f32⟩
  | 70 => ⟨S16384x10, .f32⟩
  | 71 => ⟨S16384x10, .f32⟩
  | 72 => ⟨S16384x10, .f32⟩
  | 73 => ⟨S16384x10, .f32⟩
  | 74 => ⟨S16384x10, .f32⟩
  | 75 => ⟨S16384x10, .i32⟩
  | 76 => ⟨S_, .f32⟩
  | 77 => ⟨S_, .i32⟩
  | 78 => ⟨S16384, .f32⟩
  | 79 => ⟨S16384, .i32⟩
  | 80 => ⟨S16x1024x1, .i32⟩
  | 81 => ⟨S16384x10x512, .f32⟩
  | 82 => ⟨S16384x1x1, .i32⟩
  | 83 => ⟨S_, .i32⟩
  | 84 => ⟨S16384x1x1, .i32⟩
  | 85 => ⟨S16384x1x1, .i1⟩
  | 86 => ⟨S_, .i32⟩
  | 87 => ⟨S16384x1x1, .i32⟩
  | 88 => ⟨S16384x1x1, .i32⟩
  | 89 => ⟨S16384x1x1, .i32⟩
  | 90 => ⟨S1, .i32⟩
  | 91 => ⟨S_, .i32⟩
  | 92 => ⟨S16384x1x1, .i32⟩
  | 93 => ⟨S16384x1x1, .i1⟩
  | 94 => ⟨S1x1x1, .i32⟩
  | 95 => ⟨S16384x1x1, .i32⟩
  | 96 => ⟨S16384x1x1, .i1⟩
  | 97 => ⟨S16384x1x1, .i1⟩
  | 98 => ⟨S_, .i1⟩
  | 99 => ⟨S16384x1, .i1⟩
  | 100 => ⟨S16384x1x512, .f32⟩
  | 101 => ⟨S16384x1x512, .i1⟩
  | 102 => ⟨S_, .f32⟩
  | 103 => ⟨S16384x1x512, .f32⟩
  | 104 => ⟨S16384x1x512, .f32⟩
  | 105 => ⟨S16x1024x512, .f32⟩
  | 106 => ⟨S16x1024x512, .f32⟩
  | 107 => ⟨S1x1x512, .f32⟩
  | 108 => ⟨S16x1024x512, .f32⟩
  | 109 => ⟨S16x1024x512, .f32⟩
  | 110 => ⟨S_, .f32⟩
  | 111 => ⟨S16x1024x512, .f32⟩
  | 112 => ⟨S16x1024x512, .f32⟩
  | 113 => ⟨S16x1024x1024, .f32⟩
  | 114 => ⟨S1x1x1024, .f32⟩
  | 115 => ⟨S16x1024x1024, .f32⟩
  | 116 => ⟨S16x1024x1024, .f32⟩
  | 117 => ⟨S16x1024x1024, .f32⟩
  | _ => ⟨S16x1024x1024, .f32⟩

abbrev hbmTy (i : Nat) : BufTy := match i / 128 with
  | 0 => hbmTy0_0 i
  | 1 => hbmTy0_1 i
  | 2 => hbmTy0_2 i
  | _ => ⟨S16x1024x1024, .f32⟩

abbrev bufTy : (tb : Table) → Fin (tcTables nBuf tb) → BufTy
  | .hbm, ⟨i, _⟩ => hbmTy i
  | _, _ => ⟨S16x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_call0_v0 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c : Ref sig .tc := ⟨.hbm, 49, rfl⟩
abbrev main_c_5 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_6 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_7 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_call1_cst : Ref sig .tc := ⟨.hbm, 63, rfl⟩
abbrev main_call1_cst_0 : Ref sig .tc := ⟨.hbm, 64, rfl⟩
abbrev main_call1_call0_v0 : Ref sig .tc := ⟨.hbm, 65, rfl⟩
abbrev main_call1_call0_v1 : Ref sig .tc := ⟨.hbm, 66, rfl⟩
abbrev main_call1_call0_v2 : Ref sig .tc := ⟨.hbm, 67, rfl⟩
abbrev main_call1_call0_v3 : Ref sig .tc := ⟨.hbm, 68, rfl⟩
abbrev main_call1_call0_v4 : Ref sig .tc := ⟨.hbm, 69, rfl⟩
abbrev main_call1_call0_v5 : Ref sig .tc := ⟨.hbm, 70, rfl⟩
abbrev main_call1_call0_v6 : Ref sig .tc := ⟨.hbm, 71, rfl⟩
abbrev main_call1_call0_v7 : Ref sig .tc := ⟨.hbm, 72, rfl⟩
abbrev main_call1_call0_v8 : Ref sig .tc := ⟨.hbm, 73, rfl⟩
abbrev main_call1_call0_c : Ref sig .tc := ⟨.hbm, 74, rfl⟩
abbrev main_call1_call0_v9 : Ref sig .tc := ⟨.hbm, 75, rfl⟩
abbrev main_call1_call0_v10 : Ref sig .tc := ⟨.hbm, 76, rfl⟩
abbrev main_call1_call0_c_0 : Ref sig .tc := ⟨.hbm, 77, rfl⟩
abbrev main_call1_call0_v11 : Ref sig .tc := ⟨.hbm, 78, rfl⟩
abbrev main_call1_call0_v12 : Ref sig .tc := ⟨.hbm, 79, rfl⟩
abbrev main_call1_call0_v13 : Ref sig .tc := ⟨.hbm, 80, rfl⟩
abbrev main_call1_call0_c_1 : Ref sig .tc := ⟨.hbm, 81, rfl⟩
abbrev main_call1_call0_v14 : Ref sig .tc := ⟨.hbm, 82, rfl⟩
abbrev main_call1_call0_v15 : Ref sig .tc := ⟨.hbm, 83, rfl⟩
abbrev main_call1_call0_v16 : Ref sig .tc := ⟨.hbm, 84, rfl⟩
abbrev main_call1_call0_v17 : Ref sig .tc := ⟨.hbm, 85, rfl⟩
abbrev main_call1_call0_call0_v0 : Ref sig .tc := ⟨.hbm, 86, rfl⟩
abbrev main_call1_call0_call0_c : Ref sig .tc := ⟨.hbm, 87, rfl⟩
abbrev main_call1_call0_call0_v1 : Ref sig .tc := ⟨.hbm, 88, rfl⟩
abbrev main_call1_call0_call0_v2 : Ref sig .tc := ⟨.hbm, 89, rfl⟩
abbrev main_call1_call0_call0_v3 : Ref sig .tc := ⟨.hbm, 90, rfl⟩
abbrev main_call1_call0_call0_v4 : Ref sig .tc := ⟨.hbm, 91, rfl⟩
abbrev main_call1_call0_call0_v5 : Ref sig .tc := ⟨.hbm, 92, rfl⟩
abbrev main_call1_call0_call0_v6 : Ref sig .tc := ⟨.hbm, 93, rfl⟩
abbrev main_call1_call0_call0_c_0 : Ref sig .tc := ⟨.hbm, 94, rfl⟩
abbrev main_call1_call0_call0_v7 : Ref sig .tc := ⟨.hbm, 95, rfl⟩
abbrev main_call1_call0_call0_v8 : Ref sig .tc := ⟨.hbm, 96, rfl⟩
abbrev main_call1_call0_call0_c_1 : Ref sig .tc := ⟨.hbm, 97, rfl⟩
abbrev main_call1_call0_call0_v9 : Ref sig .tc := ⟨.hbm, 98, rfl⟩
abbrev main_call1_call0_call0_v10 : Ref sig .tc := ⟨.hbm, 99, rfl⟩
abbrev main_call1_call0_call0_v11 : Ref sig .tc := ⟨.hbm, 100, rfl⟩
abbrev main_call1_call0_call0_v12 : Ref sig .tc := ⟨.hbm, 101, rfl⟩
abbrev main_call1_call0_call0_v13 : Ref sig .tc := ⟨.hbm, 102, rfl⟩
abbrev main_call1_call0_call0_c_2 : Ref sig .tc := ⟨.hbm, 103, rfl⟩
abbrev main_call1_call0_call0_v14 : Ref sig .tc := ⟨.hbm, 104, rfl⟩
abbrev main_call1_call0_call0_v15 : Ref sig .tc := ⟨.hbm, 105, rfl⟩
abbrev main_call1_call0_call0_c_3 : Ref sig .tc := ⟨.hbm, 106, rfl⟩
abbrev main_call1_call0_call0_v16 : Ref sig .tc := ⟨.hbm, 107, rfl⟩
abbrev main_call1_call0_call0_v17 : Ref sig .tc := ⟨.hbm, 108, rfl⟩
abbrev main_call1_call0_call0_v18 : Ref sig .tc := ⟨.hbm, 109, rfl⟩
abbrev main_call1_call0_call0_v19 : Ref sig .tc := ⟨.hbm, 110, rfl⟩
abbrev main_call1_call0_call0_v20 : Ref sig .tc := ⟨.hbm, 111, rfl⟩
abbrev main_call1_call0_call0_c_4 : Ref sig .tc := ⟨.hbm, 112, rfl⟩
abbrev main_call1_call0_call0_v21 : Ref sig .tc := ⟨.hbm, 113, rfl⟩
abbrev main_call1_call0_call0_v22 : Ref sig .tc := ⟨.hbm, 114, rfl⟩
abbrev main_call1_call0_call0_c_5 : Ref sig .tc := ⟨.hbm, 115, rfl⟩
abbrev main_call1_call0_call0_v23 : Ref sig .tc := ⟨.hbm, 116, rfl⟩
abbrev main_call1_call0_call0_v24 : Ref sig .tc := ⟨.hbm, 117, rfl⟩
abbrev main_call1_call0_call0_v25 : Ref sig .tc := ⟨.hbm, 118, rfl⟩
abbrev main_call1_call0_call0_v26 : Ref sig .tc := ⟨.hbm, 119, rfl⟩
abbrev main_call1_call0_call0_v27 : Ref sig .tc := ⟨.hbm, 120, rfl⟩
abbrev main_call1_call0_call0_c_6 : Ref sig .tc := ⟨.hbm, 121, rfl⟩
abbrev main_call1_call0_call0_v28 : Ref sig .tc := ⟨.hbm, 122, rfl⟩
abbrev main_call1_call0_call0_v29 : Ref sig .tc := ⟨.hbm, 123, rfl⟩
abbrev main_call1_call0_call0_c_7 : Ref sig .tc := ⟨.hbm, 124, rfl⟩
abbrev main_call1_call0_call0_v30 : Ref sig .tc := ⟨.hbm, 125, rfl⟩
abbrev main_call1_call0_call0_v31 : Ref sig .tc := ⟨.hbm, 126, rfl⟩
abbrev main_call1_call0_call0_v32 : Ref sig .tc := ⟨.hbm, 127, rfl⟩
abbrev main_call1_call0_call0_v33 : Ref sig .tc := ⟨.hbm, 128, rfl⟩
abbrev main_call1_call0_call0_v34 : Ref sig .tc := ⟨.hbm, 129, rfl⟩
abbrev main_call1_call0_call0_v35 : Ref sig .tc := ⟨.hbm, 130, rfl⟩
abbrev main_call1_call0_call0_v36 : Ref sig .tc := ⟨.hbm, 131, rfl⟩
abbrev main_call1_call0_call0_v37 : Ref sig .tc := ⟨.hbm, 132, rfl⟩
abbrev main_call1_call0_call0_c_8 : Ref sig .tc := ⟨.hbm, 133, rfl⟩
abbrev main_call1_call0_call0_v38 : Ref sig .tc := ⟨.hbm, 134, rfl⟩
abbrev main_call1_call0_call0_v39 : Ref sig .tc := ⟨.hbm, 135, rfl⟩
abbrev main_call1_call0_call0_v40 : Ref sig .tc := ⟨.hbm, 136, rfl⟩
abbrev main_call1_call0_call0_c_9 : Ref sig .tc := ⟨.hbm, 137, rfl⟩
abbrev main_call1_call0_call0_v41 : Ref sig .tc := ⟨.hbm, 138, rfl⟩
abbrev main_call1_call0_call0_v42 : Ref sig .tc := ⟨.hbm, 139, rfl⟩
abbrev main_call1_call0_call0_c_10 : Ref sig .tc := ⟨.hbm, 140, rfl⟩
abbrev main_call1_call0_call0_v43 : Ref sig .tc := ⟨.hbm, 141, rfl⟩
abbrev main_call1_call0_call0_v44 : Ref sig .tc := ⟨.hbm, 142, rfl⟩
abbrev main_call1_call0_call0_v45 : Ref sig .tc := ⟨.hbm, 143, rfl⟩
abbrev main_call1_call0_call0_v46 : Ref sig .tc := ⟨.hbm, 144, rfl⟩
abbrev main_call1_call0_call0_v47 : Ref sig .tc := ⟨.hbm, 145, rfl⟩
abbrev main_call1_call0_call0_c_11 : Ref sig .tc := ⟨.hbm, 146, rfl⟩
abbrev main_call1_call0_call0_v48 : Ref sig .tc := ⟨.hbm, 147, rfl⟩
abbrev main_call1_call0_call0_v49 : Ref sig .tc := ⟨.hbm, 148, rfl⟩
abbrev main_call1_call0_call0_c_12 : Ref sig .tc := ⟨.hbm, 149, rfl⟩
abbrev main_call1_call0_call0_v50 : Ref sig .tc := ⟨.hbm, 150, rfl⟩
abbrev main_call1_call0_call0_v51 : Ref sig .tc := ⟨.hbm, 151, rfl⟩
abbrev main_call1_call0_call0_v52 : Ref sig .tc := ⟨.hbm, 152, rfl⟩
abbrev main_call1_call0_call0_v53 : Ref sig .tc := ⟨.hbm, 153, rfl⟩
abbrev main_call1_call0_call0_v54 : Ref sig .tc := ⟨.hbm, 154, rfl⟩
abbrev main_call1_call0_call0_c_13 : Ref sig .tc := ⟨.hbm, 155, rfl⟩
abbrev main_call1_call0_call0_v55 : Ref sig .tc := ⟨.hbm, 156, rfl⟩
abbrev main_call1_call0_call0_v56 : Ref sig .tc := ⟨.hbm, 157, rfl⟩
abbrev main_call1_call0_call0_c_14 : Ref sig .tc := ⟨.hbm, 158, rfl⟩
abbrev main_call1_call0_call0_v57 : Ref sig .tc := ⟨.hbm, 159, rfl⟩
abbrev main_call1_call0_call0_v58 : Ref sig .tc := ⟨.hbm, 160, rfl⟩
abbrev main_call1_call0_call0_v59 : Ref sig .tc := ⟨.hbm, 161, rfl⟩
abbrev main_call1_call0_call0_v60 : Ref sig .tc := ⟨.hbm, 162, rfl⟩
abbrev main_call1_call0_call0_v61 : Ref sig .tc := ⟨.hbm, 163, rfl⟩
abbrev main_call1_call0_call0_c_15 : Ref sig .tc := ⟨.hbm, 164, rfl⟩
abbrev main_call1_call0_call0_v62 : Ref sig .tc := ⟨.hbm, 165, rfl⟩
abbrev main_call1_call0_call0_v63 : Ref sig .tc := ⟨.hbm, 166, rfl⟩
abbrev main_call1_call0_call0_c_16 : Ref sig .tc := ⟨.hbm, 167, rfl⟩
abbrev main_call1_call0_call0_v64 : Ref sig .tc := ⟨.hbm, 168, rfl⟩
abbrev main_call1_call0_call0_v65 : Ref sig .tc := ⟨.hbm, 169, rfl⟩
abbrev main_call1_call0_call0_v66 : Ref sig .tc := ⟨.hbm, 170, rfl⟩
abbrev main_call1_call0_call0_v67 : Ref sig .tc := ⟨.hbm, 171, rfl⟩
abbrev main_call1_call0_call0_v68 : Ref sig .tc := ⟨.hbm, 172, rfl⟩
abbrev main_call1_call0_call0_v69 : Ref sig .tc := ⟨.hbm, 173, rfl⟩
abbrev main_call1_call0_call0_v70 : Ref sig .tc := ⟨.hbm, 174, rfl⟩
abbrev main_call1_call0_call0_v71 : Ref sig .tc := ⟨.hbm, 175, rfl⟩
abbrev main_call1_call0_call0_c_17 : Ref sig .tc := ⟨.hbm, 176, rfl⟩
abbrev main_call1_call0_call0_v72 : Ref sig .tc := ⟨.hbm, 177, rfl⟩
abbrev main_call1_call0_call0_v73 : Ref sig .tc := ⟨.hbm, 178, rfl⟩
abbrev main_call1_call0_call0_v74 : Ref sig .tc := ⟨.hbm, 179, rfl⟩
abbrev main_call1_call0_call0_c_18 : Ref sig .tc := ⟨.hbm, 180, rfl⟩
abbrev main_call1_call0_call0_v75 : Ref sig .tc := ⟨.hbm, 181, rfl⟩
abbrev main_call1_call0_call0_v76 : Ref sig .tc := ⟨.hbm, 182, rfl⟩
abbrev main_call1_call0_call0_c_19 : Ref sig .tc := ⟨.hbm, 183, rfl⟩
abbrev main_call1_call0_call0_v77 : Ref sig .tc := ⟨.hbm, 184, rfl⟩
abbrev main_call1_call0_call0_v78 : Ref sig .tc := ⟨.hbm, 185, rfl⟩
abbrev main_call1_call0_call0_v79 : Ref sig .tc := ⟨.hbm, 186, rfl⟩
abbrev main_call1_call0_call0_v80 : Ref sig .tc := ⟨.hbm, 187, rfl⟩
abbrev main_call1_call0_call0_v81 : Ref sig .tc := ⟨.hbm, 188, rfl⟩
abbrev main_call1_call0_call0_c_20 : Ref sig .tc := ⟨.hbm, 189, rfl⟩
abbrev main_call1_call0_call0_v82 : Ref sig .tc := ⟨.hbm, 190, rfl⟩
abbrev main_call1_call0_call0_v83 : Ref sig .tc := ⟨.hbm, 191, rfl⟩
abbrev main_call1_call0_call0_c_21 : Ref sig .tc := ⟨.hbm, 192, rfl⟩
abbrev main_call1_call0_call0_v84 : Ref sig .tc := ⟨.hbm, 193, rfl⟩
abbrev main_call1_call0_call0_v85 : Ref sig .tc := ⟨.hbm, 194, rfl⟩
abbrev main_call1_call0_call0_v86 : Ref sig .tc := ⟨.hbm, 195, rfl⟩
abbrev main_call1_call0_call0_v87 : Ref sig .tc := ⟨.hbm, 196, rfl⟩
abbrev main_call1_call0_call0_v88 : Ref sig .tc := ⟨.hbm, 197, rfl⟩
abbrev main_call1_call0_call0_c_22 : Ref sig .tc := ⟨.hbm, 198, rfl⟩
abbrev main_call1_call0_call0_v89 : Ref sig .tc := ⟨.hbm, 199, rfl⟩
abbrev main_call1_call0_call0_v90 : Ref sig .tc := ⟨.hbm, 200, rfl⟩
abbrev main_call1_call0_call0_c_23 : Ref sig .tc := ⟨.hbm, 201, rfl⟩
abbrev main_call1_call0_call0_v91 : Ref sig .tc := ⟨.hbm, 202, rfl⟩
abbrev main_call1_call0_call0_v92 : Ref sig .tc := ⟨.hbm, 203, rfl⟩
abbrev main_call1_call0_call0_v93 : Ref sig .tc := ⟨.hbm, 204, rfl⟩
abbrev main_call1_call0_call0_v94 : Ref sig .tc := ⟨.hbm, 205, rfl⟩
abbrev main_call1_call0_call0_v95 : Ref sig .tc := ⟨.hbm, 206, rfl⟩
abbrev main_call1_call0_call0_c_24 : Ref sig .tc := ⟨.hbm, 207, rfl⟩
abbrev main_call1_call0_call0_v96 : Ref sig .tc := ⟨.hbm, 208, rfl⟩
abbrev main_call1_call0_call0_v97 : Ref sig .tc := ⟨.hbm, 209, rfl⟩
abbrev main_call1_call0_call0_c_25 : Ref sig .tc := ⟨.hbm, 210, rfl⟩
abbrev main_call1_call0_call0_v98 : Ref sig .tc := ⟨.hbm, 211, rfl⟩
abbrev main_call1_call0_call0_v99 : Ref sig .tc := ⟨.hbm, 212, rfl⟩
abbrev main_call1_call0_call0_v100 : Ref sig .tc := ⟨.hbm, 213, rfl⟩
abbrev main_call1_call0_call0_v101 : Ref sig .tc := ⟨.hbm, 214, rfl⟩
abbrev main_call1_call0_call0_v102 : Ref sig .tc := ⟨.hbm, 215, rfl⟩
abbrev main_call1_call0_call0_v103 : Ref sig .tc := ⟨.hbm, 216, rfl⟩
abbrev main_call1_call0_call0_v104 : Ref sig .tc := ⟨.hbm, 217, rfl⟩
abbrev main_call1_call0_call0_v105 : Ref sig .tc := ⟨.hbm, 218, rfl⟩
abbrev main_call1_call0_call0_c_26 : Ref sig .tc := ⟨.hbm, 219, rfl⟩
abbrev main_call1_call0_call0_v106 : Ref sig .tc := ⟨.hbm, 220, rfl⟩
abbrev main_call1_call0_call0_v107 : Ref sig .tc := ⟨.hbm, 221, rfl⟩
abbrev main_call1_call0_call0_v108 : Ref sig .tc := ⟨.hbm, 222, rfl⟩
abbrev main_call1_call0_call0_c_27 : Ref sig .tc := ⟨.hbm, 223, rfl⟩
abbrev main_call1_call0_call0_v109 : Ref sig .tc := ⟨.hbm, 224, rfl⟩
abbrev main_call1_call0_call0_v110 : Ref sig .tc := ⟨.hbm, 225, rfl⟩
abbrev main_call1_call0_call0_c_28 : Ref sig .tc := ⟨.hbm, 226, rfl⟩
abbrev main_call1_call0_call0_v111 : Ref sig .tc := ⟨.hbm, 227, rfl⟩
abbrev main_call1_call0_call0_v112 : Ref sig .tc := ⟨.hbm, 228, rfl⟩
abbrev main_call1_call0_call0_v113 : Ref sig .tc := ⟨.hbm, 229, rfl⟩
abbrev main_call1_call0_call0_v114 : Ref sig .tc := ⟨.hbm, 230, rfl⟩
abbrev main_call1_call0_call0_v115 : Ref sig .tc := ⟨.hbm, 231, rfl⟩
abbrev main_call1_call0_call0_c_29 : Ref sig .tc := ⟨.hbm, 232, rfl⟩
abbrev main_call1_call0_call0_v116 : Ref sig .tc := ⟨.hbm, 233, rfl⟩
abbrev main_call1_call0_call0_v117 : Ref sig .tc := ⟨.hbm, 234, rfl⟩
abbrev main_call1_call0_call0_c_30 : Ref sig .tc := ⟨.hbm, 235, rfl⟩
abbrev main_call1_call0_call0_v118 : Ref sig .tc := ⟨.hbm, 236, rfl⟩
abbrev main_call1_call0_call0_v119 : Ref sig .tc := ⟨.hbm, 237, rfl⟩
abbrev main_call1_call0_call0_v120 : Ref sig .tc := ⟨.hbm, 238, rfl⟩
abbrev main_call1_call0_call0_v121 : Ref sig .tc := ⟨.hbm, 239, rfl⟩
abbrev main_call1_call0_call0_v122 : Ref sig .tc := ⟨.hbm, 240, rfl⟩
abbrev main_call1_call0_call0_c_31 : Ref sig .tc := ⟨.hbm, 241, rfl⟩
abbrev main_call1_call0_call0_v123 : Ref sig .tc := ⟨.hbm, 242, rfl⟩
abbrev main_call1_call0_call0_v124 : Ref sig .tc := ⟨.hbm, 243, rfl⟩
abbrev main_call1_call0_call0_c_32 : Ref sig .tc := ⟨.hbm, 244, rfl⟩
abbrev main_call1_call0_call0_v125 : Ref sig .tc := ⟨.hbm, 245, rfl⟩
abbrev main_call1_call0_call0_v126 : Ref sig .tc := ⟨.hbm, 246, rfl⟩
abbrev main_call1_call0_call0_v127 : Ref sig .tc := ⟨.hbm, 247, rfl⟩
abbrev main_call1_call0_call0_v128 : Ref sig .tc := ⟨.hbm, 248, rfl⟩
abbrev main_call1_call0_call0_v129 : Ref sig .tc := ⟨.hbm, 249, rfl⟩
abbrev main_call1_call0_call0_c_33 : Ref sig .tc := ⟨.hbm, 250, rfl⟩
abbrev main_call1_call0_call0_v130 : Ref sig .tc := ⟨.hbm, 251, rfl⟩
abbrev main_call1_call0_call0_v131 : Ref sig .tc := ⟨.hbm, 252, rfl⟩
abbrev main_call1_call0_call0_c_34 : Ref sig .tc := ⟨.hbm, 253, rfl⟩
abbrev main_call1_call0_call0_v132 : Ref sig .tc := ⟨.hbm, 254, rfl⟩
abbrev main_call1_call0_call0_v133 : Ref sig .tc := ⟨.hbm, 255, rfl⟩
abbrev main_call1_call0_call0_v134 : Ref sig .tc := ⟨.hbm, 256, rfl⟩
abbrev main_call1_call0_call0_v135 : Ref sig .tc := ⟨.hbm, 257, rfl⟩
abbrev main_call1_call0_call0_v136 : Ref sig .tc := ⟨.hbm, 258, rfl⟩
abbrev main_call1_call0_call0_v137 : Ref sig .tc := ⟨.hbm, 259, rfl⟩
abbrev main_call1_call0_call0_v138 : Ref sig .tc := ⟨.hbm, 260, rfl⟩
abbrev main_call1_call0_call0_v139 : Ref sig .tc := ⟨.hbm, 261, rfl⟩
abbrev main_call1_call0_call0_c_35 : Ref sig .tc := ⟨.hbm, 262, rfl⟩
abbrev main_call1_call0_call0_v140 : Ref sig .tc := ⟨.hbm, 263, rfl⟩
abbrev main_call1_call0_call0_v141 : Ref sig .tc := ⟨.hbm, 264, rfl⟩
abbrev main_call1_call0_call0_v142 : Ref sig .tc := ⟨.hbm, 265, rfl⟩
abbrev main_call1_call0_call0_c_36 : Ref sig .tc := ⟨.hbm, 266, rfl⟩
abbrev main_call1_call0_call0_v143 : Ref sig .tc := ⟨.hbm, 267, rfl⟩
abbrev main_call1_call0_call0_v144 : Ref sig .tc := ⟨.hbm, 268, rfl⟩
abbrev main_call1_call0_call0_c_37 : Ref sig .tc := ⟨.hbm, 269, rfl⟩
abbrev main_call1_call0_call0_v145 : Ref sig .tc := ⟨.hbm, 270, rfl⟩
abbrev main_call1_call0_call0_v146 : Ref sig .tc := ⟨.hbm, 271, rfl⟩
abbrev main_call1_call0_call0_v147 : Ref sig .tc := ⟨.hbm, 272, rfl⟩
abbrev main_call1_call0_call0_v148 : Ref sig .tc := ⟨.hbm, 273, rfl⟩
abbrev main_call1_call0_call0_v149 : Ref sig .tc := ⟨.hbm, 274, rfl⟩
abbrev main_call1_call0_call0_c_38 : Ref sig .tc := ⟨.hbm, 275, rfl⟩
abbrev main_call1_call0_call0_v150 : Ref sig .tc := ⟨.hbm, 276, rfl⟩
abbrev main_call1_call0_call0_v151 : Ref sig .tc := ⟨.hbm, 277, rfl⟩
abbrev main_call1_call0_call0_c_39 : Ref sig .tc := ⟨.hbm, 278, rfl⟩
abbrev main_call1_call0_call0_v152 : Ref sig .tc := ⟨.hbm, 279, rfl⟩
abbrev main_call1_call0_call0_v153 : Ref sig .tc := ⟨.hbm, 280, rfl⟩
abbrev main_call1_call0_call0_v154 : Ref sig .tc := ⟨.hbm, 281, rfl⟩
abbrev main_call1_call0_call0_v155 : Ref sig .tc := ⟨.hbm, 282, rfl⟩
abbrev main_call1_call0_call0_v156 : Ref sig .tc := ⟨.hbm, 283, rfl⟩
abbrev main_call1_call0_call0_c_40 : Ref sig .tc := ⟨.hbm, 284, rfl⟩
abbrev main_call1_call0_call0_v157 : Ref sig .tc := ⟨.hbm, 285, rfl⟩
abbrev main_call1_call0_call0_v158 : Ref sig .tc := ⟨.hbm, 286, rfl⟩
abbrev main_call1_call0_call0_c_41 : Ref sig .tc := ⟨.hbm, 287, rfl⟩
abbrev main_call1_call0_call0_v159 : Ref sig .tc := ⟨.hbm, 288, rfl⟩
abbrev main_call1_call0_call0_v160 : Ref sig .tc := ⟨.hbm, 289, rfl⟩
abbrev main_call1_call0_call0_v161 : Ref sig .tc := ⟨.hbm, 290, rfl⟩
abbrev main_call1_call0_call0_v162 : Ref sig .tc := ⟨.hbm, 291, rfl⟩
abbrev main_call1_call0_call0_v163 : Ref sig .tc := ⟨.hbm, 292, rfl⟩
abbrev main_call1_call0_call0_c_42 : Ref sig .tc := ⟨.hbm, 293, rfl⟩
abbrev main_call1_call0_call0_v164 : Ref sig .tc := ⟨.hbm, 294, rfl⟩
abbrev main_call1_call0_call0_v165 : Ref sig .tc := ⟨.hbm, 295, rfl⟩
abbrev main_call1_call0_call0_c_43 : Ref sig .tc := ⟨.hbm, 296, rfl⟩
abbrev main_call1_call0_call0_v166 : Ref sig .tc := ⟨.hbm, 297, rfl⟩
abbrev main_call1_call0_call0_v167 : Ref sig .tc := ⟨.hbm, 298, rfl⟩
abbrev main_call1_call0_call0_v168 : Ref sig .tc := ⟨.hbm, 299, rfl⟩
abbrev main_call1_call0_call0_v169 : Ref sig .tc := ⟨.hbm, 300, rfl⟩
abbrev main_call1_call0_call0_v170 : Ref sig .tc := ⟨.hbm, 301, rfl⟩
abbrev main_call1_call0_v18_0 : Ref sig .tc := ⟨.hbm, 302, rfl⟩
abbrev main_call1_call0_call0_v172 : Ref sig .tc := ⟨.hbm, 303, rfl⟩
abbrev main_call1_call0_call0_v173 : Ref sig .tc := ⟨.hbm, 304, rfl⟩
abbrev main_call1_call0_call0_c_44 : Ref sig .tc := ⟨.hbm, 305, rfl⟩
abbrev main_call1_call0_call0_v174 : Ref sig .tc := ⟨.hbm, 306, rfl⟩
abbrev main_call1_call0_v18_1 : Ref sig .tc := ⟨.hbm, 307, rfl⟩
abbrev main_call1_call0_v19 : Ref sig .tc := ⟨.hbm, 308, rfl⟩
abbrev main_call1_call0_c_2 : Ref sig .tc := ⟨.hbm, 309, rfl⟩
abbrev main_call1_call0_v20 : Ref sig .tc := ⟨.hbm, 310, rfl⟩
abbrev main_call1_call0_v21 : Ref sig .tc := ⟨.hbm, 311, rfl⟩
abbrev main_call1_call0_c_3 : Ref sig .tc := ⟨.hbm, 312, rfl⟩
abbrev main_call1_call0_v22 : Ref sig .tc := ⟨.hbm, 313, rfl⟩
abbrev main_call1_call0_v23 : Ref sig .tc := ⟨.hbm, 314, rfl⟩
abbrev main_call1_call0_v24 : Ref sig .tc := ⟨.hbm, 315, rfl⟩
abbrev main_call1_call0_cst : Ref sig .tc := ⟨.hbm, 316, rfl⟩
abbrev main_call1_call0_v25 : Ref sig .tc := ⟨.hbm, 317, rfl⟩
abbrev main_call1_call0_v26 : Ref sig .tc := ⟨.hbm, 318, rfl⟩
abbrev main_call1_call0_v27 : Ref sig .tc := ⟨.hbm, 319, rfl⟩
abbrev main_call1_call0_v28 : Ref sig .tc := ⟨.hbm, 320, rfl⟩
abbrev main_call1_call0_v29 : Ref sig .tc := ⟨.hbm, 321, rfl⟩
abbrev main_call1_call0_v30 : Ref sig .tc := ⟨.hbm, 322, rfl⟩
abbrev main_call1_call0_v31 : Ref sig .tc := ⟨.hbm, 323, rfl⟩
abbrev main_call1_call0_v32 : Ref sig .tc := ⟨.hbm, 324, rfl⟩
abbrev main_call1_v0 : Ref sig .tc := ⟨.hbm, 325, rfl⟩
abbrev main_call1_v1 : Ref sig .tc := ⟨.hbm, 326, rfl⟩
abbrev main_call1_v2 : Ref sig .tc := ⟨.hbm, 327, rfl⟩
abbrev main_call1_v3 : Ref sig .tc := ⟨.hbm, 328, rfl⟩
abbrev main_v39 : Ref sig .tc := ⟨.hbm, 329, rfl⟩
abbrev main_v40 : Ref sig .tc := ⟨.hbm, 330, rfl⟩
abbrev main_call2_v0 : Ref sig .tc := ⟨.hbm, 331, rfl⟩
abbrev main_call2_cst : Ref sig .tc := ⟨.hbm, 332, rfl⟩
abbrev main_call2_c : Ref sig .tc := ⟨.hbm, 333, rfl⟩
abbrev main_call2_v1_0 : Ref sig .tc := ⟨.hbm, 334, rfl⟩
abbrev main_v41 : Ref sig .tc := ⟨.hbm, 335, rfl⟩
abbrev main_v42 : Ref sig .tc := ⟨.hbm, 336, rfl⟩
abbrev main_v43 : Ref sig .tc := ⟨.hbm, 337, rfl⟩
abbrev main_v44 : Ref sig .tc := ⟨.hbm, 338, rfl⟩
abbrev main_call3_c : Ref sig .tc := ⟨.hbm, 339, rfl⟩
abbrev main_call3_v0 : Ref sig .tc := ⟨.hbm, 340, rfl⟩
abbrev main_call3_v1 : Ref sig .tc := ⟨.hbm, 341, rfl⟩
abbrev main_call3_c_0 : Ref sig .tc := ⟨.hbm, 342, rfl⟩
abbrev main_call3_v2 : Ref sig .tc := ⟨.hbm, 343, rfl⟩
abbrev main_call3_v3 : Ref sig .tc := ⟨.hbm, 344, rfl⟩
abbrev main_call3_v4 : Ref sig .tc := ⟨.hbm, 345, rfl⟩
abbrev main_call3_c_1 : Ref sig .tc := ⟨.hbm, 346, rfl⟩
abbrev main_call3_c_2 : Ref sig .tc := ⟨.hbm, 347, rfl⟩
abbrev main_call3_v5 : Ref sig .tc := ⟨.hbm, 348, rfl⟩
abbrev main_call3_v6 : Ref sig .tc := ⟨.hbm, 349, rfl⟩
abbrev main_call3_v7 : Ref sig .tc := ⟨.hbm, 350, rfl⟩
abbrev main_call3_v8 : Ref sig .tc := ⟨.hbm, 351, rfl⟩
abbrev main_call3_v9 : Ref sig .tc := ⟨.hbm, 352, rfl⟩
abbrev main_call3_v10 : Ref sig .tc := ⟨.hbm, 353, rfl⟩
abbrev main_call3_c_3 : Ref sig .tc := ⟨.hbm, 354, rfl⟩
abbrev main_call3_v11 : Ref sig .tc := ⟨.hbm, 355, rfl⟩
abbrev main_call3_v12 : Ref sig .tc := ⟨.hbm, 356, rfl⟩
abbrev main_call3_v13 : Ref sig .tc := ⟨.hbm, 357, rfl⟩
abbrev main_call3_cst : Ref sig .tc := ⟨.hbm, 358, rfl⟩
abbrev main_call3_v14 : Ref sig .tc := ⟨.hbm, 359, rfl⟩
abbrev main_v45 : Ref sig .tc := ⟨.hbm, 360, rfl⟩
abbrev main_v46 : Ref sig .tc := ⟨.hbm, 361, rfl⟩
abbrev main_v47 : Ref sig .tc := ⟨.hbm, 362, rfl⟩
abbrev main_v48 : Ref sig .tc := ⟨.hbm, 363, rfl⟩
abbrev main_v49 : Ref sig .tc := ⟨.hbm, 364, rfl⟩
abbrev main_v50 : Ref sig .tc := ⟨.hbm, 365, rfl⟩
abbrev main_call4_cst : Ref sig .tc := ⟨.hbm, 366, rfl⟩
abbrev main_call4_v0 : Ref sig .tc := ⟨.hbm, 367, rfl⟩
abbrev main_v51 : Ref sig .tc := ⟨.hbm, 368, rfl⟩
abbrev main_v52 : Ref sig .tc := ⟨.hbm, 369, rfl⟩
abbrev main_v53 : Ref sig .tc := ⟨.hbm, 370, rfl⟩
abbrev main_v54 : Ref sig .tc := ⟨.hbm, 371, rfl⟩
abbrev main_v55 : Ref sig .tc := ⟨.hbm, 372, rfl⟩
abbrev main_v56 : Ref sig .tc := ⟨.hbm, 373, rfl⟩

abbrev nD : Nat := 1
abbrev τ : Topo := Topo.v7x

variable {F : FTy → Type} [FloatOps F]
-- ==== Proof.Spec.lean ====
/-
  What one environment's row computes, over the extended reals, in plain mathematics.  Both programs are read against these
  functions: the kernel block by block, the reference array by array.
-/
module

public import Idealize.ShloMosaic.PureOps.Ideal
public import Idealize.ShloMosaic.PureOps.Ideal.Laws

@[expose] public section

noncomputable section

open Idealize.ShloMosaic
open scoped BigOperators

namespace Cert.Row

/-- A row times a matrix: entry `k` is `Σ_d x d * w d k`. -/
def lin {n m : Nat} (x : Fin n → EReal) (w : Fin n → Fin m → EReal) (k : Fin m) : EReal := ∑ d, x d * w d k

/-- The score of one action before its mask: the inner product of its query and its key, divided by the square root of the
    key's length and then by the square root of ten (the two divisors as their single-precision words). -/
def logit (q key : Fin 512 → EReal) : EReal :=
  Ideal.div (Ideal.div (∑ k, q k * key k) (Ideal.ofBits .f32 0x41B504F3#32)) (Ideal.ofBits .f32 0x404A62C2#32)

/-- The scores with the actions that are not allowed (mask zero) set to the lowest finite single-precision number. -/
def masked (mk l : Fin 10 → EReal) (n : Fin 10) : EReal := if 0 < mk n then l n else Ideal.ofBits .f32 0xFF7FFFFF#32

/-- The largest of ten values (from minus infinity's word). -/
def top (x : Fin 10 → EReal) : EReal := (Finset.univ : Finset (Fin 10)).fold max (Ideal.ofBits .f32 0xFF800000#32) x

/-- The unnormalised weight of an action: the exponential of its distance from the largest score, times its mask. -/
def weight (mk l : Fin 10 → EReal) (n : Fin 10) : EReal :=
  Ideal.exp (masked mk l n - top (masked mk l)) * mk n

/-- The policy: the weights divided by their sum. -/
def policy (mk l : Fin 10 → EReal) (n : Fin 10) : EReal := Ideal.div (weight mk l n) (∑ a, weight mk l a)

/-- The perturbed log-probability of an action: the logarithm of the policy plus a small constant, plus the noise. -/
def score (p g : Fin 10 → EReal) (n : Fin 10) : EReal := Ideal.log (p n + Ideal.ofBits .f32 0x0DA24260#32) + g n

/-- Minus infinity's word is the least extended real. -/
theorem ofBits_neg_inf : Ideal.ofBits .f32 0xFF800000#32 = ⊥ := by simp [Ideal.ofBits, Ideal.ieee]

theorem top_eq_sup (x : Fin 10 → EReal) : top x = Finset.univ.sup x := by
  unfold top; rw [ofBits_neg_inf]; rfl

theorem le_top (x : Fin 10 → EReal) (n : Fin 10) : x n ≤ top x := by
  rw [top_eq_sup]; exact Finset.le_sup (Finset.mem_univ n)

theorem exists_top (x : Fin 10 → EReal) : ∃ n, x n = top x := by
  rw [top_eq_sup]
  obtain ⟨n, _, h⟩ := Finset.exists_mem_eq_sup (Finset.univ : Finset (Fin 10)) ⟨0, Finset.mem_univ _⟩ x
  exact ⟨n, h.symm⟩

/-- The action chosen: the first one whose value is the largest. -/
def pick (z : Fin 10 → EReal) : Fin 10 :=
  (Finset.univ.filter fun n => z n = top z).min' (by
    obtain ⟨n, h⟩ := exists_top z
    exact ⟨n, Finset.mem_filter.mpr ⟨Finset.mem_univ _, h⟩⟩)

theorem pick_top (z : Fin 10 → EReal) : z (pick z) = top z :=
  (Finset.mem_filter.mp (Finset.min'_mem (Finset.univ.filter fun n => z n = top z) _)).2

theorem pick_le (z : Fin 10 → EReal) (n : Fin 10) (h : z n = top z) : pick z ≤ n :=
  Finset.min'_le (Finset.univ.filter fun a => z a = top z) n (Finset.mem_filter.mpr ⟨Finset.mem_univ _, h⟩)

/-- It is the only index holding the largest value with none before it. -/
theorem pick_unique (z : Fin 10 → EReal) (n : Fin 10) (h : z n = top z) (hm : ∀ a, a < n → z a ≠ top z) : n = pick z := by
  rcases lt_trichotomy (pick z) n with h' | h' | h'
  · exact absurd (pick_top z) (hm _ h')
  · exact h'.symm
  · exact absurd (pick_le z n h) (not_le.mpr h')

/-- The hidden layer: the chosen key times a matrix, plus a bias, cut off below at zero. -/
def hid (sel : Fin 512 → EReal) (w : Fin 512 → Fin 512 → EReal) (b : Fin 512 → EReal) (k : Fin 512) : EReal :=
  max (lin sel w k + b k) 0

/-- The row's new state: the old one plus the hidden layer times a matrix, plus a bias. -/
def out (s : Fin 1024 → EReal) (h : Fin 512 → EReal) (w : Fin 512 → Fin 1024 → EReal) (b : Fin 1024 → EReal) (d : Fin 1024) :
    EReal := s d + (lin h w d + b d)

/-! ## One row's data and results -/

/-- What one row is computed from: the state, the ten actions' vectors, the masks (zero or one), the noise; and the weights. -/
structure Data where
  s : Fin 1024 → EReal
  x : Fin 10 → Fin 512 → EReal
  mask : Fin 10 → EReal
  g : Fin 10 → EReal
  wmq : Fin 1024 → Fin 512 → EReal
  wsq : Fin 1024 → Fin 512 → EReal
  wmk : Fin 512 → Fin 512 → EReal
  wsk : Fin 512 → Fin 512 → EReal
  wp1 : Fin 512 → Fin 512 → EReal
  bp1 : Fin 512 → EReal
  wp2 : Fin 512 → Fin 1024 → EReal
  bp2 : Fin 1024 → EReal

namespace Data
variable (D : Data)

/-- The query for action `n`: the first four actions (moves) have one query, the other six (switches) another. -/
def query (n : Fin 10) : Fin 512 → EReal := if n.val < 4 then lin D.s D.wmq else lin D.s D.wsq

/-- The key of action `n`, likewise. -/
def key (n : Fin 10) : Fin 512 → EReal := if n.val < 4 then lin (D.x n) D.wmk else lin (D.x n) D.wsk

/-- The row's scores. -/
def logits (n : Fin 10) : EReal := logit (D.query n) (D.key n)

/-- The row's policy. -/
def pol (n : Fin 10) : EReal := policy D.mask D.logits n

/-- The row's perturbed log-probabilities. -/
def scores (n : Fin 10) : EReal := score D.pol D.g n

/-- The row's chosen action. -/
def act : Fin 10 := pick D.scores

/-- The row's new state. -/
def state (d : Fin 1024) : EReal := out D.s (hid (D.key D.act) D.wp1 D.bp1) D.wp2 D.bp2 d

end Data

end Cert.Row
-- ==== Proof.KernelKeys.lean ====
/-
  The kernel body's keys, queries and scores, read at an index of the block.
-/
module

public import proofs.«01_k».proof.Proof.Gen.KernelIdeal.Frame
public import proofs.«01_k».proof.Proof.Spec
public import Idealize.ShloMosaic.Lib.Pointwise
public import Idealize.ShloMosaic.Lib.ValueIdx

@[expose] public section

set_option maxRecDepth 16384

noncomputable section

open Idealize.ShloMosaic Idealize.ShloMosaic.TcCoe Idealize.ShloMosaic.StableHlo
open Idealize.SL.Sem

namespace Cert.KernelIdeal.Block

open Cert.KernelIdeal Cert.KernelIdeal.Gen

/-- A row of a block of `n` columns. -/
abbrev row {m n : Nat} (x : (⟨2, ![m, n]⟩ : Shape).Idx → EReal) (r : Fin m) (d : Fin n) : EReal := x (ix2 r d)

/-! ## The products -/

/-- The state block times the first query matrix. -/
theorem query1 (s : Vec Ideal S512x1024 .f32) (w : Vec Ideal S1024x512 .bf16) (r k : Fin 512) :
    k0_pay3 s w (ix2 r k) = Row.lin (row s r) (row w) k := by
  pointwise [k0_pay3, k0_pay2, Row.lin]

/-- The state block times the second query matrix. -/
theorem query2 (s : Vec Ideal S512x1024 .f32) (w : Vec Ideal S1024x512 .bf16) (r k : Fin 512) :
    k0_pay4 s w (ix2 r k) = Row.lin (row s r) (row w) k := by
  pointwise [k0_pay4, k0_pay2, Row.lin]

/-- One action's vectors times a key matrix. -/
theorem key (x : Vec Ideal S512x512 .bf16) (w : Vec Ideal S512x512 .bf16) (r k : Fin 512) :
    k0_pay5 x w (ix2 r k) = Row.lin (row x r) (row w) k := by
  pointwise [k0_pay5, Row.lin]

/-- The inner products of one action's keys with the first query, row by row. -/
theorem col1 (key : FVec Ideal S512x512 .f32) (q : FVec Ideal S512x512 .bf16) (r : Fin 512) (o : Fin 1) :
    k0_pay18 key q (ix2 r o) = ∑ k : Fin 512, q (ix2 r k) * key (ix2 r k) := by
  pointwise [k0_pay18, k0_pay16]

/-- The inner products of one action's keys with the second query, row by row. -/
theorem col2 (key : FVec Ideal S512x512 .f32) (q : FVec Ideal S512x512 .f32) (r : Fin 512) (o : Fin 1) :
    k0_pay22 q key (ix2 r o) = ∑ k : Fin 512, q (ix2 r k) * key (ix2 r k) := by
  pointwise [k0_pay22, k0_pay17]

/-! ## The cuts of the wide blocks -/

/-- 512 columns of a wide block from column `off` on. -/
theorem ld_cols {W : Nat} (x : Vec Ideal ⟨2, ![512, W]⟩ .bf16) (off : Nat) (h) (ho : off + 512 ≤ W) (r j : Fin 512) :
    View.ld x (Rect.unit (s := ⟨2, ![512, W]⟩) ![0, off] S512x512.size h) (ix2 r j)
      = x (ix2 r ⟨off + j.val, by omega⟩) := by
  show x _ = x _
  congr 1
  funext a
  apply Fin.ext
  match a with
  | ⟨0, _⟩ => show 0 + 1 * r.val = r.val; omega
  | ⟨1, _⟩ => show off + 1 * j.val = off + j.val; omega

theorem hz : (![0, 0] : Fin 2 → Nat) = fun _ => 0 := funext fun a => by fin_cases a <;> rfl

/-- One action's keys from the wide block that holds its vectors in columns `off` to `off + 511`. -/
theorem keyCols {W : Nat} (x : Vec Ideal ⟨2, ![512, W]⟩ .bf16) (w : Vec Ideal S512x512 .bf16) (off : Nat) (h) (ho : off + 512 ≤ W)
    (r k : Fin 512) :
    k0_pay5 (View.ld x (Rect.unit (s := ⟨2, ![512, W]⟩) ![0, off] S512x512.size h)) (View.ld w r0_3) (ix2 r k)
      = Row.lin (fun j : Fin 512 => x (ix2 r ⟨off + j.val, by omega⟩)) (row w) k := by
  rw [key, View.ld_unit_zero hz]
  exact congrFun (congrArg (Row.lin · (row w)) (funext fun j => ld_cols x off h ho r j)) k

/-! ## The block's own words for keys, queries and scores -/

section
variable (x0 : Vec Ideal S512x10 .f32) (x1 : Vec Ideal S512x1024 .f32) (x2 : Vec Ideal S512x2048 .bf16)
  (x3 : Vec Ideal S512x3072 .bf16) (x4 : Vec Ideal S512x10 .f32) (x5 x6 : Vec Ideal S1024x512 .bf16)
  (x7 x8 x9 : Vec Ideal S512x512 .bf16) (x10 : Vec Ideal S1x512 .f32) (x11 : Vec Ideal S512x1024 .bf16)
  (x12 : Vec Ideal S1x1024 .f32)

/-- What row `r` is computed from, read off thirteen arrays of `M` rows laid out as the kernel's operands are. -/
def data {M : Nat} (x0 : (⟨2, ![M, 10]⟩ : Shape).Idx → EReal) (x1 : (⟨2, ![M, 1024]⟩ : Shape).Idx → EReal)
    (x2 : (⟨2, ![M, 2048]⟩ : Shape).Idx → EReal) (x3 : (⟨2, ![M, 3072]⟩ : Shape).Idx → EReal)
    (x4 : (⟨2, ![M, 10]⟩ : Shape).Idx → EReal) (x5 x6 : S1024x512.Idx → EReal) (x7 x8 x9 : S512x512.Idx → EReal)
    (x10 : S1x512.Idx → EReal) (x11 : S512x1024.Idx → EReal) (x12 : S1x1024.Idx → EReal) (r : Fin M) : Row.Data where
  s := row x1 r
  x := fun n j => if h : n.val < 4 then x2 (ix2 r ⟨512 * n.val + j.val, by omega⟩) else x3 (ix2 r ⟨512 * (n.val - 4) + j.val, by omega⟩)
  mask := row x4 r
  g := row x0 r
  wmq := row x5
  wsq := row x6
  wmk := row x7
  wsk := row x8
  wp1 := row x9
  bp1 := row x10 0
  wp2 := row x11
  bp2 := row x12 0

/-- The block's row `r`. -/
abbrev D (r : Fin 512) : Row.Data := data (M := 512) x0 x1 x2 x3 x4 x5 x6 x7 x8 x9 x10 x11 x12 r

/-- The ten key arrays the body holds. -/
def keys : Fin 10 → FVec Ideal S512x512 .f32 :=
  ![k0_pay36 x0 x1 x2 x3 x4 x5 x6 x7 x8 x9 x10 x11 x12, k0_pay37 x0 x1 x2 x3 x4 x5 x6 x7 x8 x9 x10 x11 x12,
    k0_pay38 x0 x1 x2 x3 x4 x5 x6 x7 x8 x9 x10 x11 x12, k0_pay39 x0 x1 x2 x3 x4 x5 x6 x7 x8 x9 x10 x11 x12,
    k0_pay40 x0 x1 x2 x3 x4 x5 x6 x7 x8 x9 x10 x11 x12, k0_pay41 x0 x1 x2 x3 x4 x5 x6 x7 x8 x9 x10 x11 x12,
    k0_pay42 x0 x1 x2 x3 x4 x5 x6 x7 x8 x9 x10 x11 x12, k0_pay43 x0 x1 x2 x3 x4 x5 x6 x7 x8 x9 x10 x11 x12,
    k0_pay44 x0 x1 x2 x3 x4 x5 x6 x7 x8 x9 x10 x11 x12, k0_pay45 x0 x1 x2 x3 x4 x5 x6 x7 x8 x9 x10 x11 x12]

/-- Each of them at an index is the key of that row and action. -/
theorem keys_apply (n : Fin 10) (r k : Fin 512) :
    keys x0 x1 x2 x3 x4 x5 x6 x7 x8 x9 x10 x11 x12 n (ix2 r k) = (D x0 x1 x2 x3 x4 x5 x6 x7 x8 x9 x10 x11 x12 r).key n k := by
  have mv : ∀ (n : Fin 4) (h), k0_pay5 (View.ld x2 (Rect.unit (s := S512x2048) ![0, 512 * n.val] S512x512.size h))
      (View.ld x7 r0_3) (ix2 r k) = (D x0 x1 x2 x3 x4 x5 x6 x7 x8 x9 x10 x11 x12 r).key (n.castLE (by omega)) k := fun n h => by
    rw [keyCols x2 x7 _ h (by omega)]
    unfold D Row.Data.key data
    simp only [Fin.val_castLE, n.isLt, if_true, dif_pos]
  have sv : ∀ (n : Fin 6) (h), k0_pay5 (View.ld x3 (Rect.unit (s := S512x3072) ![0, 512 * n.val] S512x512.size h))
      (View.ld x8 r0_3) (ix2 r k) = (D x0 x1 x2 x3 x4 x5 x6 x7 x8 x9 x10 x11 x12 r).key (n.natAdd 4) k := fun n h => by
    rw [keyCols x3 x8 _ h (by omega)]
    unfold D Row.Data.key data
    have hn : ¬ (4 + n.val < 4) := by omega
    have he : 4 + n.val - 4 = n.val := by omega
    simp only [Fin.val_natAdd, hn, if_false, dite_false, he]
  match n with
  | ⟨0, _⟩ => exact mv 0 _
  | ⟨1, _⟩ => exact mv 1 _
  | ⟨2, _⟩ => exact mv 2 _
  | ⟨3, _⟩ => exact mv 3 _
  | ⟨4, _⟩ => exact sv 0 _
  | ⟨5, _⟩ => exact sv 1 _
  | ⟨6, _⟩ => exact sv 2 _
  | ⟨7, _⟩ => exact sv 3 _
  | ⟨8, _⟩ => exact sv 4 _
  | ⟨9, _⟩ => exact sv 5 _

/-- The ten columns of inner products: nine as the body holds them, the tenth summed from its products. -/
def cols (v68 v73 v78 v83 v88 v93 v98 v103 v108 : FVec Ideal S512x1 .f32) (v111 : FVec Ideal S512x512 .f32) :
    Fin 10 → FVec Ideal S512x1 .f32 :=
  ![v68, v73, v78, v83, v88, v93, v98, v103, v108,
    shapeCast S512x1 (multiReduction .add [1] S512 v111 0x00000000#32 reduces_S512x512_S512 (.inl rfl) rfl) shapeCasts_S512_S512x1]

/-- The scores from the ten columns. -/
theorem logits_cols (v68 v73 v78 v83 v88 v93 v98 v103 v108 : FVec Ideal S512x1 .f32) (v111 : FVec Ideal S512x512 .f32)
    (r : Fin 512) (n : Fin 10) :
    k0_pay28 v68 v73 v78 v83 v88 v93 v98 v103 v108 v111 (ix2 r n)
      = Ideal.div (Ideal.div (cols v68 v73 v78 v83 v88 v93 v98 v103 v108 v111 n (ix2 r 0)) (Ideal.ofBits .f32 0x41B504F3#32))
          (Ideal.ofBits .f32 0x404A62C2#32) := by
  have hc := concatenate_ofFn_unit_apply (t := S512x10) (s₁ := S512x1) 1 (cols v68 v73 v78 v83 v88 v93 v98 v103 v108 v111)
    concatenates_S512x1_S512x1_S512x1_S512x1_S512x1_S512x1_S512x1_S512x1_S512x1_S512x1_S512x10_d1 rfl rfl (ix2 r n) n rfl (ix2 r 0)
    (fun b hb => by
      match b with
      | ⟨0, _⟩ => rfl
      | ⟨1, _⟩ => exact absurd rfl hb)
  rw [← hc]
  rfl

/-- The block's scores at row `r` and action `n`. -/
theorem logits_apply (r : Fin 512) (n : Fin 10) :
    k0_pay28 (k0_pay47 x0 x1 x2 x3 x4 x5 x6 x7 x8 x9 x10 x11 x12) (k0_pay48 x0 x1 x2 x3 x4 x5 x6 x7 x8 x9 x10 x11 x12)
      (k0_pay49 x0 x1 x2 x3 x4 x5 x6 x7 x8 x9 x10 x11 x12) (k0_pay50 x0 x1 x2 x3 x4 x5 x6 x7 x8 x9 x10 x11 x12)
      (k0_pay51 x0 x1 x2 x3 x4 x5 x6 x7 x8 x9 x10 x11 x12) (k0_pay52 x0 x1 x2 x3 x4 x5 x6 x7 x8 x9 x10 x11 x12)
      (k0_pay53 x0 x1 x2 x3 x4 x5 x6 x7 x8 x9 x10 x11 x12) (k0_pay54 x0 x1 x2 x3 x4 x5 x6 x7 x8 x9 x10 x11 x12)
      (k0_pay55 x0 x1 x2 x3 x4 x5 x6 x7 x8 x9 x10 x11 x12) (k0_pay56 x0 x1 x2 x3 x4 x5 x6 x7 x8 x9 x10 x11 x12) (ix2 r n)
      = (D x0 x1 x2 x3 x4 x5 x6 x7 x8 x9 x10 x11 x12 r).logits n := by
  rw [logits_cols]
  unfold Row.Data.logits Row.logit
  congr 2
  have hq1 : ∀ k, k0_pay46 x0 x1 x2 x3 x4 x5 x6 x7 x8 x9 x10 x11 x12 (ix2 r k) = Row.lin (row x1 r) (row x5) k := fun k => by
    show k0_pay3 (View.ld x1 r0_0) (View.ld x5 r0_1) (ix2 r k) = _
    rw [View.ld_unit_zero hz, View.ld_unit_zero hz, query1]
  have hq2 : ∀ k, k0_pay35 x0 x1 x2 x3 x4 x5 x6 x7 x8 x9 x10 x11 x12 (ix2 r k) = Row.lin (row x1 r) (row x6) k := fun k => by
    show k0_pay4 (View.ld x1 r0_0) (View.ld x6 r0_1) (ix2 r k) = _
    rw [View.ld_unit_zero hz, View.ld_unit_zero hz, query2]
  have c1 : ∀ n : Fin 10, n.val < 4 → k0_pay18 (keys x0 x1 x2 x3 x4 x5 x6 x7 x8 x9 x10 x11 x12 n)
      (k0_pay46 x0 x1 x2 x3 x4 x5 x6 x7 x8 x9 x10 x11 x12) (ix2 r 0) = ∑ k, (D x0 x1 x2 x3 x4 x5 x6 x7 x8 x9 x10 x11 x12 r).query n k * (D x0 x1 x2 x3 x4 x5 x6 x7 x8 x9 x10 x11 x12 r).key n k :=
    fun n hn => by
      rw [col1]
      refine Finset.sum_congr rfl fun k _ => ?_
      rw [hq1, keys_apply]; unfold Row.Data.query; rw [if_pos hn]; rfl
  have c2 : ∀ n : Fin 10, ¬ n.val < 4 → k0_pay22 (k0_pay35 x0 x1 x2 x3 x4 x5 x6 x7 x8 x9 x10 x11 x12)
      (keys x0 x1 x2 x3 x4 x5 x6 x7 x8 x9 x10 x11 x12 n) (ix2 r 0) = ∑ k, (D x0 x1 x2 x3 x4 x5 x6 x7 x8 x9 x10 x11 x12 r).query n k * (D x0 x1 x2 x3 x4 x5 x6 x7 x8 x9 x10 x11 x12 r).key n k :=
    fun n hn => by
      rw [col2]
      refine Finset.sum_congr rfl fun k _ => ?_
      rw [hq2, keys_apply]; unfold Row.Data.query; rw [if_neg hn]; rfl
  match n with
  | ⟨0, _⟩ => exact c1 0 (by decide)
  | ⟨1, _⟩ => exact c1 1 (by decide)
  | ⟨2, _⟩ => exact c1 2 (by decide)
  | ⟨3, _⟩ => exact c1 3 (by decide)
  | ⟨4, _⟩ => exact c2 4 (by decide)
  | ⟨5, _⟩ => exact c2 5 (by decide)
  | ⟨6, _⟩ => exact c2 6 (by decide)
  | ⟨7, _⟩ => exact c2 7 (by decide)
  | ⟨8, _⟩ => exact c2 8 (by decide)
  | ⟨9, _⟩ => exact c2 9 (by decide)

end

end Cert.KernelIdeal.Block
-- ==== Proof.KernelRow.lean ====
/-
  What the kernel body stores, read at an index of the block: the policy, the chosen action and the new state.
-/
module

public import proofs.«01_k».proof.Proof.KernelKeys

@[expose] public section

set_option maxRecDepth 16384

noncomputable section

open Idealize.ShloMosaic Idealize.ShloMosaic.TcCoe Idealize.ShloMosaic.StableHlo
open Idealize.SL.Sem

namespace Cert.KernelIdeal.Block

open Cert.KernelIdeal Cert.KernelIdeal.Gen

section
variable (v68 v73 v78 v83 v88 v93 v98 v103 v108 : FVec Ideal S512x1 .f32) (v111 : FVec Ideal S512x512 .f32)
  (mk g : Vec Ideal S512x10 .f32)

/-- The policy at row `r` and action `n`, from the row's scores and masks. -/
theorem policy_apply (r : Fin 512) (n : Fin 10) :
    k0_pay29 v68 v73 v78 v83 v88 v93 v98 v103 v108 v111 mk (ix2 r n)
      = Row.policy (row mk r) (row (k0_pay28 v68 v73 v78 v83 v88 v93 v98 v103 v108 v111) r) n := by
  pointwise [k0_pay29, Row.policy, Row.weight, Row.masked, Row.top]

/-- A fold of a commutative and associative operation is the value that absorbs every other one, where some entry has it. -/
theorem fold_eq_absorb {α β : Type} [DecidableEq β] (op : α → α → α) [Std.Commutative op] [Std.Associative op] (b v : α) (f : β → α)
    (S : Finset β) (hb : op v b = v) (hf : ∀ x, op v (f x) = v) (c : β) (hc : c ∈ S) (hv : f c = v) : S.fold op b f = v := by
  have h : ∀ T : Finset β, op v (T.fold op b f) = v := fun T => by
    induction T using Finset.induction_on with
    | empty => exact hb
    | insert a T ha ih => rw [Finset.fold_insert ha, ← Std.Associative.assoc (op := op), hf, ih]
  rw [← Finset.insert_erase hc, Finset.fold_insert (Finset.notMem_erase c S), hv, h]

/-- The smaller of two words of numbers up to ten is the word of the smaller. -/
theorem minsi_small : ∀ p q : Fin 11, p ≤ q →
    IntOp.minsi (BitVec.ofNat 32 p.val) (BitVec.ofNat 32 q.val) = BitVec.ofNat 32 p.val := by decide

theorem minsi_start : ∀ p : Fin 11, IntOp.minsi (BitVec.ofNat 32 p.val) 2147483647#32 = BitVec.ofNat 32 p.val := by decide

/-- The least word among the places of the largest value (and tens elsewhere) is the word of the action chosen. -/
theorem fold_pick (z : Fin 10 → EReal) :
    Finset.fold IntOp.minsi (2147483647#32) (fun x : Fin 10 => if z x = Row.top z then BitVec.ofNat 32 x.val else 10#32) Finset.univ
      = BitVec.ofNat 32 (Row.pick z).val := by
  refine fold_eq_absorb _ _ _ _ _ (minsi_start (Row.pick z).castSucc) (fun x => ?_) (Row.pick z) (Finset.mem_univ _)
    (if_pos (Row.pick_top z))
  split_ifs with h
  · exact minsi_small (Row.pick z).castSucc x.castSucc (Row.pick_le z x h)
  · exact minsi_small (Row.pick z).castSucc 10 (Fin.le_last _)

/-- The index word at row `r`: the action chosen from the perturbed log-probabilities. -/
theorem index_apply (r : Fin 512) :
    k0_pay30 v68 v73 v78 v83 v88 v93 v98 v103 v108 v111 mk g (ix1 r)
      = BitVec.ofNat 32 (Row.pick (Row.score (row (k0_pay29 v68 v73 v78 v83 v88 v93 v98 v103 v108 v111 mk) r) (row g r))).val := by
  rw [← fold_pick]
  pointwise [k0_pay30, Row.score, Row.top]
end

/-- The index words as a column. -/
theorem column_apply (i : IVec S512 32) (r : Fin 512) (o : Fin 1) : k0_pay31 i (ix2 r o) = i (ix1 r) := by
  pointwise [k0_pay31]

/-- A summand of the choice: the key where the row's index word is the action's, zero elsewhere. -/
theorem select_word (i n : Fin 10) (x : EReal) :
    Scalar.select (IntOp.cmpi CmpIPredicate.eq (BitVec.ofNat 32 i.val) (BitVec.ofNat 32 n.val)) x 0 = if i = n then x else 0 := by
  have h : ∀ i n : Fin 10, IntOp.cmpi CmpIPredicate.eq (BitVec.ofNat 32 i.val) (BitVec.ofNat 32 n.val)
      = if i = n then 1#1 else 0#1 := by decide
  rw [h]
  split_ifs
  · exact ValueIdx.select_one _ _
  · exact ValueIdx.select_zero _ _

/-- The summands added up in the body's order are the chosen key's entry. -/
theorem chosen (K : Fin 10 → FVec Ideal S512x512 .f32) (i : IVec S512 32) (r k : Fin 512) (n : Fin 10)
    (hi : i (ix1 r) = BitVec.ofNat 32 n.val) :
    k0_pay32 (K 0) (K 1) (K 2) (K 3) (K 4) i (ix2 r k) + k0_pay33 (K 5) i (ix2 r k)
      + Scalar.select (IntOp.cmpi CmpIPredicate.eq (k0_pay31 i (ix2 r 0)) 6#32) (K 6 (ix2 r k)) 0
      + Scalar.select (IntOp.cmpi CmpIPredicate.eq (k0_pay31 i (ix2 r 0)) 7#32) (K 7 (ix2 r k)) 0
      + Scalar.select (IntOp.cmpi CmpIPredicate.eq (k0_pay31 i (ix2 r 0)) 8#32) (K 8 (ix2 r k)) 0
      + Scalar.select (IntOp.cmpi CmpIPredicate.eq (k0_pay31 i (ix2 r 0)) 9#32) (K 9 (ix2 r k)) 0
      = K n (ix2 r k) := by
  rw [column_apply]
  pointwise [k0_pay32, k0_pay33, k0_pay31]
  rw [hi]
  have h := fun a : Fin 10 => select_word n a (K a (ix2 r k))
  refine Eq.trans (b := (if n = 0 then K 0 (ix2 r k) else 0) + (if n = 1 then K 1 (ix2 r k) else 0)
    + (if n = 2 then K 2 (ix2 r k) else 0) + (if n = 3 then K 3 (ix2 r k) else 0) + (if n = 4 then K 4 (ix2 r k) else 0)
    + (if n = 5 then K 5 (ix2 r k) else 0) + (if n = 6 then K 6 (ix2 r k) else 0) + (if n = 7 then K 7 (ix2 r k) else 0)
    + (if n = 8 then K 8 (ix2 r k) else 0) + (if n = 9 then K 9 (ix2 r k) else 0)) ?_ ?_
  · rw [← h 0, ← h 1, ← h 2, ← h 3, ← h 4, ← h 5, ← h 6, ← h 7, ← h 8, ← h 9]; rfl
  · fin_cases n <;> simp

/-- The new state at row `r` and column `k`, where the row's index word is that of action `n`. -/
theorem state_apply (s : Vec Ideal S512x1024 .f32) (K : Fin 10 → FVec Ideal S512x512 .f32) (i : IVec S512 32)
    (w1 : Vec Ideal S512x512 .bf16) (b1 : Vec Ideal S1x512 .f32) (w2 : Vec Ideal S512x1024 .bf16) (b2 : Vec Ideal S1x1024 .f32)
    (r : Fin 512) (k : Fin 1024) (n : Fin 10) (hi : i (ix1 r) = BitVec.ofNat 32 n.val) :
    k0_pay1 (k0_pay2 s) (k0_pay34 (K 6) (K 7) (K 8) (K 9) (k0_pay31 i) (k0_pay32 (K 0) (K 1) (K 2) (K 3) (K 4) i)
        (k0_pay33 (K 5) i) w1 b1 w2) b2 (ix2 r k)
      = Row.out (row s r) (Row.hid (row (K n) r) (row w1) (row b1 0)) (row w2) (row b2 0) k := by
  unfold Row.out Row.hid Row.lin row
  simp only [← chosen K i r _ n hi]
  pointwise [k0_pay1, k0_pay2, k0_pay34]

end Cert.KernelIdeal.Block
-- ==== Proof.KernelBlock.lean ====
/-
  The four blocks the kernel body leaves, at an index: the results of the row's data.
-/
module

public import proofs.«01_k».proof.Proof.KernelRow

@[expose] public section

set_option maxRecDepth 16384

noncomputable section

open Idealize.ShloMosaic Idealize.ShloMosaic.TcCoe Idealize.ShloMosaic.StableHlo
open Idealize.SL.Sem

namespace Cert.KernelIdeal.Block

open Cert.KernelIdeal Cert.KernelIdeal.Gen

variable (x0 : Vec Ideal S512x10 .f32) (x1 : Vec Ideal S512x1024 .f32) (x2 : Vec Ideal S512x2048 .bf16)
  (x3 : Vec Ideal S512x3072 .bf16) (x4 : Vec Ideal S512x10 .f32) (x5 x6 : Vec Ideal S1024x512 .bf16)
  (x7 x8 x9 : Vec Ideal S512x512 .bf16) (x10 : Vec Ideal S1x512 .f32) (x11 : Vec Ideal S512x1024 .bf16)
  (x12 : Vec Ideal S1x1024 .f32)

/-- The scores' block. -/
theorem logits_block (r : Fin 512) (n : Fin 10) :
    out0_14 x0 x1 x2 x3 x4 x5 x6 x7 x8 x9 x10 x11 x12 (ix2 r n) = (D x0 x1 x2 x3 x4 x5 x6 x7 x8 x9 x10 x11 x12 r).logits n := by
  unfold out0_14
  rw [View.canon_unit_zero hz, logits_apply]

/-- The policy's block, before it is stored. -/
theorem policy_value (r : Fin 512) (n : Fin 10) :
    k0_pay29 (k0_pay47 x0 x1 x2 x3 x4 x5 x6 x7 x8 x9 x10 x11 x12) (k0_pay48 x0 x1 x2 x3 x4 x5 x6 x7 x8 x9 x10 x11 x12)
      (k0_pay49 x0 x1 x2 x3 x4 x5 x6 x7 x8 x9 x10 x11 x12) (k0_pay50 x0 x1 x2 x3 x4 x5 x6 x7 x8 x9 x10 x11 x12)
      (k0_pay51 x0 x1 x2 x3 x4 x5 x6 x7 x8 x9 x10 x11 x12) (k0_pay52 x0 x1 x2 x3 x4 x5 x6 x7 x8 x9 x10 x11 x12)
      (k0_pay53 x0 x1 x2 x3 x4 x5 x6 x7 x8 x9 x10 x11 x12) (k0_pay54 x0 x1 x2 x3 x4 x5 x6 x7 x8 x9 x10 x11 x12)
      (k0_pay55 x0 x1 x2 x3 x4 x5 x6 x7 x8 x9 x10 x11 x12) (k0_pay56 x0 x1 x2 x3 x4 x5 x6 x7 x8 x9 x10 x11 x12)
      (View.ld x4 r0_13) (ix2 r n)
      = (D x0 x1 x2 x3 x4 x5 x6 x7 x8 x9 x10 x11 x12 r).pol n := by
  rw [policy_apply, View.ld_unit_zero hz]
  unfold Row.Data.pol
  congr 1
  exact funext fun a => logits_apply x0 x1 x2 x3 x4 x5 x6 x7 x8 x9 x10 x11 x12 r a

/-- The policy's block. -/
theorem policy_block (r : Fin 512) (n : Fin 10) :
    out0_15 x0 x1 x2 x3 x4 x5 x6 x7 x8 x9 x10 x11 x12 (ix2 r n) = (D x0 x1 x2 x3 x4 x5 x6 x7 x8 x9 x10 x11 x12 r).pol n := by
  unfold out0_15
  rw [View.canon_unit_zero hz, policy_value]

/-- The index words, before they are stored. -/
theorem index_value (r : Fin 512) :
    k0_pay57 x0 x1 x2 x3 x4 x5 x6 x7 x8 x9 x10 x11 x12 (ix1 r)
      = BitVec.ofNat 32 (D x0 x1 x2 x3 x4 x5 x6 x7 x8 x9 x10 x11 x12 r).act.val := by
  unfold k0_pay57
  rw [index_apply, View.ld_unit_zero (X := x0) hz]
  unfold Row.Data.act Row.Data.scores
  congr 4
  exact funext fun n => policy_value x0 x1 x2 x3 x4 x5 x6 x7 x8 x9 x10 x11 x12 r n

/-- The index words' block. -/
theorem index_block (r : Fin 512) (o : Fin 1) :
    out0_13 x0 x1 x2 x3 x4 x5 x6 x7 x8 x9 x10 x11 x12 (ix2 r o)
      = BitVec.ofNat 32 (D x0 x1 x2 x3 x4 x5 x6 x7 x8 x9 x10 x11 x12 r).act.val := by
  unfold out0_13
  rw [View.canon_unit_zero hz, column_apply, index_value]

/-- The new states' block. -/
theorem state_block (r : Fin 512) (d : Fin 1024) :
    out0_16 x0 x1 x2 x3 x4 x5 x6 x7 x8 x9 x10 x11 x12 (ix2 r d) = (D x0 x1 x2 x3 x4 x5 x6 x7 x8 x9 x10 x11 x12 r).state d := by
  unfold out0_16
  rw [View.canon_unit_zero hz, View.ld_unit_zero (X := x1) hz, View.ld_unit_zero (X := x9) hz, View.ld_unit_zero (X := x10) hz,
    View.ld_unit_zero (X := x11) hz, View.ld_unit_zero (X := x12) hz]
  refine (state_apply x1 (keys x0 x1 x2 x3 x4 x5 x6 x7 x8 x9 x10 x11 x12) _ x9 x10 x11 x12 r d _
    (index_value x0 x1 x2 x3 x4 x5 x6 x7 x8 x9 x10 x11 x12 r)).trans ?_
  unfold Row.Data.state
  congr 2
  exact funext fun k => keys_apply x0 x1 x2 x3 x4 x5 x6 x7 x8 x9 x10 x11 x12 _ r k

end Cert.KernelIdeal.Block
-- ==== Proof.KernelArray.lean ====
/-
  The four arrays the kernel leaves: each block of 512 rows is the block of one array whose row `R` is the result of row
  `R`'s data, and the 32 blocks cover the array.
-/
module

public import proofs.«01_k».proof.Proof.KernelBlock
public import Idealize.ShloMosaic.Lib.Pipeline.ValueKit

@[expose] public section

set_option maxRecDepth 16384

noncomputable section

open Idealize.ShloMosaic Idealize.ShloMosaic.TcCoe Idealize.ShloMosaic.StableHlo
open Idealize.ShloMosaic.Pipeline (Dat)
open Idealize.SL.Sem

namespace Cert.KernelIdeal.Array

open Cert.KernelIdeal Cert.KernelIdeal.Gen Cert.KernelIdeal.Block

/-- Two rows of operand arrays with the same entries have the same data. -/
theorem data_congr {M N : Nat} {x0 : (⟨2, ![M, 10]⟩ : Shape).Idx → EReal} {x1 : (⟨2, ![M, 1024]⟩ : Shape).Idx → EReal}
    {x2 : (⟨2, ![M, 2048]⟩ : Shape).Idx → EReal} {x3 : (⟨2, ![M, 3072]⟩ : Shape).Idx → EReal} {x4 : (⟨2, ![M, 10]⟩ : Shape).Idx → EReal}
    {y0 : (⟨2, ![N, 10]⟩ : Shape).Idx → EReal} {y1 : (⟨2, ![N, 1024]⟩ : Shape).Idx → EReal}
    {y2 : (⟨2, ![N, 2048]⟩ : Shape).Idx → EReal} {y3 : (⟨2, ![N, 3072]⟩ : Shape).Idx → EReal} {y4 : (⟨2, ![N, 10]⟩ : Shape).Idx → EReal}
    {x5 x6 y5 y6 : S1024x512.Idx → EReal} {x7 x8 x9 y7 y8 y9 : S512x512.Idx → EReal} {x10 y10 : S1x512.Idx → EReal}
    {x11 y11 : S512x1024.Idx → EReal} {x12 y12 : S1x1024.Idx → EReal} {r : Fin M} {R : Fin N}
    (h0 : ∀ n, x0 (ix2 r n) = y0 (ix2 R n)) (h1 : ∀ n, x1 (ix2 r n) = y1 (ix2 R n)) (h2 : ∀ n, x2 (ix2 r n) = y2 (ix2 R n))
    (h3 : ∀ n, x3 (ix2 r n) = y3 (ix2 R n)) (h4 : ∀ n, x4 (ix2 r n) = y4 (ix2 R n)) (h5 : x5 = y5) (h6 : x6 = y6) (h7 : x7 = y7)
    (h8 : x8 = y8) (h9 : x9 = y9) (h10 : x10 = y10) (h11 : x11 = y11) (h12 : x12 = y12) :
    data x0 x1 x2 x3 x4 x5 x6 x7 x8 x9 x10 x11 x12 r = data y0 y1 y2 y3 y4 y5 y6 y7 y8 y9 y10 y11 y12 R := by
  subst h5 h6 h7 h8 h9 h10 h11 h12
  unfold data row
  congr 1
  · exact funext fun d => h1 d
  · funext n j
    by_cases h : n.val < 4
    · rw [dif_pos h, dif_pos h, h2]
    · rw [dif_neg h, dif_neg h, h3]
  · exact funext fun d => h4 d
  · exact funext fun d => h0 d

variable (m : (ℓ : Loc nD τ sig) → Buf (Elt Ideal) ℓ) (ρ : Dev nD → PrngReg) (c : Dev nD)

/-- What row `R` is computed from, read off the operand arrays as the kernel finds them. -/
def rowData (R : Fin 16384) : Row.Data :=
  data (M := 16384) (V m c main_v16) (V m c main_v0) (V m c main_v2) (V m c main_v4) (V m c main_v8) (V m c main_v17) (V m c main_v18)
    (V m c main_v19) (V m c main_v20) (V m c main_v21) (V m c main_v22) (V m c main_v23) (V m c main_v24) R

/-- The four whole arrays. -/
def idxArr : Buf (Elt Ideal) ((c : Thread nD τ).loc main_v25_0) := fun i => BitVec.ofNat 32 (rowData m c (i 0)).act.val
@[inherit_doc idxArr] def logitsArr : Buf (Elt Ideal) ((c : Thread nD τ).loc main_v25_1) := fun i => (rowData m c (i 0)).logits (i 1)
@[inherit_doc idxArr] def policyArr : Buf (Elt Ideal) ((c : Thread nD τ).loc main_v25_2) := fun i => (rowData m c (i 0)).pol (i 1)
@[inherit_doc idxArr] def stateArr : Buf (Elt Ideal) ((c : Thread nD τ).loc main_v25_3) := fun i => (rowData m c (i 0)).state (i 1)

theorem idxArr_apply (R : Fin 16384) (n : Fin 1) : idxArr m c (ix2 R n) = BitVec.ofNat 32 (rowData m c R).act.val := rfl

theorem logitsArr_apply (R : Fin 16384) (n : Fin 10) : logitsArr m c (ix2 R n) = (rowData m c R).logits n := rfl

theorem policyArr_apply (R : Fin 16384) (n : Fin 10) : policyArr m c (ix2 R n) = (rowData m c R).pol n := rfl

theorem stateArr_apply (R : Fin 16384) (d : Fin 1024) : stateArr m c (ix2 R d) = (rowData m c R).state d := rfl

/-! ## Where the blocks lie -/

/-- The row windows move one block of 512 rows at each point. -/
theorem idx_rows : ∀ t : Fin grid0.N,
    (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (win0_13.index t 0 = t.val ∧ win0_13.index t 1 = 0)
    ∧ (win0_14.index t 0 = t.val ∧ win0_14.index t 1 = 0) ∧ (win0_15.index t 0 = t.val ∧ win0_15.index t 1 = 0)
    ∧ (win0_16.index t 0 = t.val ∧ win0_16.index t 1 = 0) := by decide +kernel

/-- The weights' windows stay on their one block. -/
theorem idx_whole : ∀ t : Fin grid0.N,
    (win0_5.index t 0 = 0 ∧ win0_5.index t 1 = 0) ∧ (win0_6.index t 0 = 0 ∧ win0_6.index t 1 = 0)
    ∧ (win0_7.index t 0 = 0 ∧ win0_7.index t 1 = 0) ∧ (win0_8.index t 0 = 0 ∧ win0_8.index t 1 = 0)
    ∧ (win0_9.index t 0 = 0 ∧ win0_9.index t 1 = 0) ∧ (win0_10.index t 0 = 0 ∧ win0_10.index t 1 = 0)
    ∧ (win0_11.index t 0 = 0 ∧ win0_11.index t 1 = 0) ∧ (win0_12.index t 0 = 0 ∧ win0_12.index t 1 = 0) := by decide +kernel

/-- The array row of the block's row `r` at point `t`. -/
def rowOf (t : Fin cfg0.N) (r : Fin 512) : Fin 16384 := ⟨512 * t.val + r.val, by have : t.val < 32 := t.isLt; omega⟩

section
variable (t : Fin cfg0.N)

theorem read0 (A : Buf (Elt Ideal) ((c : Thread nD τ).loc main_v16)) (r : Fin 512) (n : Fin 10) :
    ((cfg0.win 0).blk t).view.read (Elt Ideal) A (ix2 r n) = A (ix2 (rowOf t r) n) := by
  obtain ⟨⟨h0, h1⟩, _⟩ := idx_rows t
  refine congrArg A (funext fun a => Fin.ext ?_)
  match a with
  | ⟨0, _⟩ => show win0_0.index t 0 * 512 + 1 * r.val = 512 * t.val + r.val; rw [h0]; omega
  | ⟨1, _⟩ => show win0_0.index t 1 * 10 + 1 * n.val = n.val; rw [h1]; omega

theorem read1 (A : Buf (Elt Ideal) ((c : Thread nD τ).loc main_v0)) (r : Fin 512) (n : Fin 1024) :
    ((cfg0.win 1).blk t).view.read (Elt Ideal) A (ix2 r n) = A (ix2 (rowOf t r) n) := by
  obtain ⟨_, ⟨h0, h1⟩, _⟩ := idx_rows t
  refine congrArg A (funext fun a => Fin.ext ?_)
  match a with
  | ⟨0, _⟩ => show win0_1.index t 0 * 512 + 1 * r.val = 512 * t.val + r.val; rw [h0]; omega
  | ⟨1, _⟩ => show win0_1.index t 1 * 1024 + 1 * n.val = n.val; rw [h1]; omega

theorem read2 (A : Buf (Elt Ideal) ((c : Thread nD τ).loc main_v2)) (r : Fin 512) (n : Fin 2048) :
    ((cfg0.win 2).blk t).view.read (Elt Ideal) A (ix2 r n) = A (ix2 (rowOf t r) n) := by
  obtain ⟨_, _, ⟨h0, h1⟩, _⟩ := idx_rows t
  refine congrArg A (funext fun a => Fin.ext ?_)
  match a with
  | ⟨0, _⟩ => show win0_2.index t 0 * 512 + 1 * r.val = 512 * t.val + r.val; rw [h0]; omega
  | ⟨1, _⟩ => show win0_2.index t 1 * 2048 + 1 * n.val = n.val; rw [h1]; omega

theorem read3 (A : Buf (Elt Ideal) ((c : Thread nD τ).loc main_v4)) (r : Fin 512) (n : Fin 3072) :
    ((cfg0.win 3).blk t).view.read (Elt Ideal) A (ix2 r n) = A (ix2 (rowOf t r) n) := by
  obtain ⟨_, _, _, ⟨h0, h1⟩, _⟩ := idx_rows t
  refine congrArg A (funext fun a => Fin.ext ?_)
  match a with
  | ⟨0, _⟩ => show win0_3.index t 0 * 512 + 1 * r.val = 512 * t.val + r.val; rw [h0]; omega
  | ⟨1, _⟩ => show win0_3.index t 1 * 3072 + 1 * n.val = n.val; rw [h1]; omega

theorem read4 (A : Buf (Elt Ideal) ((c : Thread nD τ).loc main_v8)) (r : Fin 512) (n : Fin 10) :
    ((cfg0.win 4).blk t).view.read (Elt Ideal) A (ix2 r n) = A (ix2 (rowOf t r) n) := by
  obtain ⟨_, _, _, _, ⟨h0, h1⟩, _⟩ := idx_rows t
  refine congrArg A (funext fun a => Fin.ext ?_)
  match a with
  | ⟨0, _⟩ => show win0_4.index t 0 * 512 + 1 * r.val = 512 * t.val + r.val; rw [h0]; omega
  | ⟨1, _⟩ => show win0_4.index t 1 * 10 + 1 * n.val = n.val; rw [h1]; omega

/-- Two indices of a matrix with the same coordinates, the first found at block zero, are one. -/
theorem whole_index {A B : Nat} (i j : (⟨2, ![A, B]⟩ : Shape).Idx) {p q : Nat} (hp : p = 0) (hq : q = 0)
    (h0 : (i 0).val = p * A + 1 * (j 0).val) (h1 : (i 1).val = q * B + 1 * (j 1).val) : i = j := by
  funext a; apply Fin.ext
  match a with
  | ⟨0, _⟩ => exact h0.trans (by rw [hp]; show 0 * A + 1 * (j 0).val = (j 0).val; omega)
  | ⟨1, _⟩ => exact h1.trans (by rw [hq]; show 0 * B + 1 * (j 1).val = (j 1).val; omega)

theorem read5 (A : Buf (Elt Ideal) ((c : Thread nD τ).loc main_v17)) : ((cfg0.win 5).blk t).view.read (Elt Ideal) A = A :=
  funext fun j => congrArg A (whole_index (A := 1024) (B := 512) _ j (idx_whole t).1.1 (idx_whole t).1.2 rfl rfl)
theorem read6 (A : Buf (Elt Ideal) ((c : Thread nD τ).loc main_v18)) : ((cfg0.win 6).blk t).view.read (Elt Ideal) A = A :=
  funext fun j => congrArg A (whole_index (A := 1024) (B := 512) _ j (idx_whole t).2.1.1 (idx_whole t).2.1.2 rfl rfl)
theorem read7 (A : Buf (Elt Ideal) ((c : Thread nD τ).loc main_v19)) : ((cfg0.win 7).blk t).view.read (Elt Ideal) A = A :=
  funext fun j => congrArg A (whole_index (A := 512) (B := 512) _ j (idx_whole t).2.2.1.1 (idx_whole t).2.2.1.2 rfl rfl)
theorem read8 (A : Buf (Elt Ideal) ((c : Thread nD τ).loc main_v20)) : ((cfg0.win 8).blk t).view.read (Elt Ideal) A = A :=
  funext fun j => congrArg A (whole_index (A := 512) (B := 512) _ j (idx_whole t).2.2.2.1.1 (idx_whole t).2.2.2.1.2 rfl rfl)
theorem read9 (A : Buf (Elt Ideal) ((c : Thread nD τ).loc main_v21)) : ((cfg0.win 9).blk t).view.read (Elt Ideal) A = A :=
  funext fun j => congrArg A (whole_index (A := 512) (B := 512) _ j (idx_whole t).2.2.2.2.1.1 (idx_whole t).2.2.2.2.1.2 rfl rfl)
theorem read10 (A : Buf (Elt Ideal) ((c : Thread nD τ).loc main_v22)) : ((cfg0.win 10).blk t).view.read (Elt Ideal) A = A :=
  funext fun j => congrArg A (whole_index (A := 1) (B := 512) _ j (idx_whole t).2.2.2.2.2.1.1 (idx_whole t).2.2.2.2.2.1.2 rfl rfl)
theorem read11 (A : Buf (Elt Ideal) ((c : Thread nD τ).loc main_v23)) : ((cfg0.win 11).blk t).view.read (Elt Ideal) A = A :=
  funext fun j => congrArg A (whole_index (A := 512) (B := 1024) _ j (idx_whole t).2.2.2.2.2.2.1.1 (idx_whole t).2.2.2.2.2.2.1.2 rfl rfl)
theorem read12 (A : Buf (Elt Ideal) ((c : Thread nD τ).loc main_v24)) : ((cfg0.win 12).blk t).view.read (Elt Ideal) A = A :=
  funext fun j => congrArg A (whole_index (A := 1) (B := 1024) _ j (idx_whole t).2.2.2.2.2.2.2.1 (idx_whole t).2.2.2.2.2.2.2.2 rfl rfl)

/-- The block's row data is the array's. -/
theorem data_eq (r : Fin 512) :
    D (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) r = rowData m c (rowOf t r) :=
  data_congr (read0 c t _ r) (read1 c t _ r) (read2 c t _ r) (read3 c t _ r) (read4 c t _ r) (read5 c t _) (read6 c t _) (read7 c t _)
    (read8 c t _) (read9 c t _) (read10 c t _) (read11 c t _) (read12 c t _)

theorem read13 (A : Buf (Elt Ideal) ((c : Thread nD τ).loc main_v25_0)) (r : Fin 512) (n : Fin 1) :
    (win0_13.blk t).view.read (Elt Ideal) A (ix2 r n) = A (ix2 (rowOf t r) n) := by
  obtain ⟨_, _, _, _, _, ⟨h0, h1⟩, _⟩ := idx_rows t
  refine congrArg A (funext fun a => Fin.ext ?_)
  match a with
  | ⟨0, _⟩ => show win0_13.index t 0 * 512 + 1 * r.val = 512 * t.val + r.val; rw [h0]; omega
  | ⟨1, _⟩ => show win0_13.index t 1 * 1 + 1 * n.val = n.val; rw [h1]; omega

theorem read14 (A : Buf (Elt Ideal) ((c : Thread nD τ).loc main_v25_1)) (r : Fin 512) (n : Fin 10) :
    (win0_14.blk t).view.read (Elt Ideal) A (ix2 r n) = A (ix2 (rowOf t r) n) := by
  obtain ⟨_, _, _, _, _, _, ⟨h0, h1⟩, _⟩ := idx_rows t
  refine congrArg A (funext fun a => Fin.ext ?_)
  match a with
  | ⟨0, _⟩ => show win0_14.index t 0 * 512 + 1 * r.val = 512 * t.val + r.val; rw [h0]; omega
  | ⟨1, _⟩ => show win0_14.index t 1 * 10 + 1 * n.val = n.val; rw [h1]; omega

theorem read15 (A : Buf (Elt Ideal) ((c : Thread nD τ).loc main_v25_2)) (r : Fin 512) (n : Fin 10) :
    (win0_15.blk t).view.read (Elt Ideal) A (ix2 r n) = A (ix2 (rowOf t r) n) := by
  obtain ⟨_, _, _, _, _, _, _, ⟨h0, h1⟩, _⟩ := idx_rows t
  refine congrArg A (funext fun a => Fin.ext ?_)
  match a with
  | ⟨0, _⟩ => show win0_15.index t 0 * 512 + 1 * r.val = 512 * t.val + r.val; rw [h0]; omega
  | ⟨1, _⟩ => show win0_15.index t 1 * 10 + 1 * n.val = n.val; rw [h1]; omega

theorem read16 (A : Buf (Elt Ideal) ((c : Thread nD τ).loc main_v25_3)) (r : Fin 512) (n : Fin 1024) :
    (win0_16.blk t).view.read (Elt Ideal) A (ix2 r n) = A (ix2 (rowOf t r) n) := by
  obtain ⟨_, _, _, _, _, _, _, _, h0, h1⟩ := idx_rows t
  refine congrArg A (funext fun a => Fin.ext ?_)
  match a with
  | ⟨0, _⟩ => show win0_16.index t 0 * 512 + 1 * r.val = 512 * t.val + r.val; rw [h0]; omega
  | ⟨1, _⟩ => show win0_16.index t 1 * 1024 + 1 * n.val = n.val; rw [h1]; omega

end

/-! ## The arrays after the run -/

/-- What point `t` writes back of window 13 is its block of the whole array. -/
theorem flushed_idx (t : Fin cfg0.N) :
    (dats m 0 c).flushed 13 t = (win0_13.blk t).view.read (Elt Ideal) (idxArr m c) := by
  show (cfg0.win 13).cut (grid0.coords t) ((dats m 0 c).after 13 t) = _
  rw [after0_13]
  funext j
  obtain ⟨r, n, rfl⟩ : ∃ (r : Fin 512) (n : Fin 1), j = ix2 r n := ⟨j 0, j 1, eq_ix2 j⟩
  refine (index_block _ _ _ _ _ _ _ _ _ _ _ _ _ r n).trans ?_
  rw [data_eq, read13 c t]
  exact (idxArr_apply m c _ n).symm

/-- What point `t` writes back of window 14 is its block of the whole array. -/
theorem flushed_logits (t : Fin cfg0.N) :
    (dats m 0 c).flushed 14 t = (win0_14.blk t).view.read (Elt Ideal) (logitsArr m c) := by
  show (cfg0.win 14).cut (grid0.coords t) ((dats m 0 c).after 14 t) = _
  rw [after0_14]
  funext j
  obtain ⟨r, n, rfl⟩ : ∃ (r : Fin 512) (n : Fin 10), j = ix2 r n := ⟨j 0, j 1, eq_ix2 j⟩
  refine (logits_block _ _ _ _ _ _ _ _ _ _ _ _ _ r n).trans ?_
  rw [data_eq, read14 c t]
  exact (logitsArr_apply m c _ n).symm

/-- What point `t` writes back of window 15 is its block of the whole array. -/
theorem flushed_policy (t : Fin cfg0.N) :
    (dats m 0 c).flushed 15 t = (win0_15.blk t).view.read (Elt Ideal) (policyArr m c) := by
  show (cfg0.win 15).cut (grid0.coords t) ((dats m 0 c).after 15 t) = _
  rw [after0_15]
  funext j
  obtain ⟨r, n, rfl⟩ : ∃ (r : Fin 512) (n : Fin 10), j = ix2 r n := ⟨j 0, j 1, eq_ix2 j⟩
  refine (policy_block _ _ _ _ _ _ _ _ _ _ _ _ _ r n).trans ?_
  rw [data_eq, read15 c t]
  exact (policyArr_apply m c _ n).symm

/-- What point `t` writes back of window 16 is its block of the whole array. -/
theorem flushed_state (t : Fin cfg0.N) :
    (dats m 0 c).flushed 16 t = (win0_16.blk t).view.read (Elt Ideal) (stateArr m c) := by
  show (cfg0.win 16).cut (grid0.coords t) ((dats m 0 c).after 16 t) = _
  rw [after0_16]
  funext j
  obtain ⟨r, n, rfl⟩ : ∃ (r : Fin 512) (n : Fin 1024), j = ix2 r n := ⟨j 0, j 1, eq_ix2 j⟩
  refine (state_block _ _ _ _ _ _ _ _ _ _ _ _ _ r n).trans ?_
  rw [data_eq, read16 c t]
  exact (stateArr_apply m c _ n).symm

/-- Each of the four arrays at the end of the run. -/
theorem final_idx : (dats m 0 c).arrAt 13 cfg0.N = idxArr m c :=
  (dats m 0 c).arrAt_eq_of_cover 13 (idxArr m c) (fun t _ => flushed_idx m c t)
    (Pipeline.Window.Covers.cover (w := cfg0.win 13) (by decide +kernel) (Memref.isWhole_whole _))

theorem final_logits : (dats m 0 c).arrAt 14 cfg0.N = logitsArr m c :=
  (dats m 0 c).arrAt_eq_of_cover 14 (logitsArr m c) (fun t _ => flushed_logits m c t)
    (Pipeline.Window.Covers.cover (w := cfg0.win 14) (by decide +kernel) (Memref.isWhole_whole _))

theorem final_policy : (dats m 0 c).arrAt 15 cfg0.N = policyArr m c :=
  (dats m 0 c).arrAt_eq_of_cover 15 (policyArr m c) (fun t _ => flushed_policy m c t)
    (Pipeline.Window.Covers.cover (w := cfg0.win 15) (by decide +kernel) (Memref.isWhole_whole _))

theorem final_state : (dats m 0 c).arrAt 16 cfg0.N = stateArr m c :=
  (dats m 0 c).arrAt_eq_of_cover 16 (stateArr m c) (fun t _ => flushed_state m c t)
    (Pipeline.Window.Covers.cover (w := cfg0.win 16) (by decide +kernel) (Memref.isWhole_whole _))

end Cert.KernelIdeal.Array
-- ==== Proof.KernelTail.lean ====
/-
  The kernel program's four results: each of the pipeline's arrays, reshaped from rows to batches.
-/
module

public import proofs.«01_k».proof.Proof.KernelArray

@[expose] public section

set_option maxRecDepth 16384

noncomputable section

open Idealize.ShloMosaic Idealize.ShloMosaic.TcCoe Idealize.ShloMosaic.StableHlo
open Idealize.SL.Sem

namespace Cert.KernelIdeal.Array

open Cert.KernelIdeal Cert.KernelIdeal.Gen Cert.KernelIdeal.Block

variable (m : (ℓ : Loc nD τ sig) → Buf (Elt Ideal) ℓ) (ρ : Dev nD → PrngReg) (c : Dev nD)

/-- The four reshapes over any contents of the buffers. -/
theorem tail_read (A : Valuation τ sig (Elt Ideal)) :
    after (hostOps1 (F := Ideal)) A (Proc.devRef .tc main_v26) = shapeCast S16x1024x1 (A (Proc.devRef .tc main_v25_0)) shapeCasts_S16384x1_S16x1024x1
    ∧ after (hostOps1 (F := Ideal)) A (Proc.devRef .tc main_v27) = shapeCast S16x1024x10 (A (Proc.devRef .tc main_v25_1)) shapeCasts_S16384x10_S16x1024x10
    ∧ after (hostOps1 (F := Ideal)) A (Proc.devRef .tc main_v28) = shapeCast S16x1024x10 (A (Proc.devRef .tc main_v25_2)) shapeCasts_S16384x10_S16x1024x10
    ∧ after (hostOps1 (F := Ideal)) A (Proc.devRef .tc main_v29) = shapeCast S16x1024x1024 (A (Proc.devRef .tc main_v25_3)) shapeCasts_S16384x1024_S16x1024x1024 := by
  refine ⟨?_, ?_, ?_, ?_⟩ <;> after_results <;> rfl

theorem arrRef_inj : Function.Injective (Pipeline.arrRef spec0) := by decide +kernel

/-- The contents the lines after the region start from. -/
def entry : Valuation τ sig (Elt Ideal) := Pipeline.withArrays spec0 c (V0 m c) fun w => (dats m 0 c).arrAt w cfg0.N

theorem entry_arr (w : Fin 17) : entry m c (Proc.devRef .tc (Pipeline.arrRef spec0 w)) = (dats m 0 c).arrAt w cfg0.N :=
  Pipeline.withArrays_arr spec0 arrRef_inj c (V0 m c) _ w

theorem tail_eq (b : Ref sig .tc) :
    Pipeline.afterTail₀ cfgs (dats m) 0 (V0 m) [hostOps1] c b = after (hostOps1 (F := Ideal)) (entry m c) (Proc.devRef .tc b) := rfl

/-- The run, its four results read off the four arrays. -/
theorem run_arrays : θ_run defs (onTc (τ := τ) (main (F := Ideal))) ⟨m, fun _ => 0, ρ⟩ fun r => ∀ c : Dev nD,
      r.2.mem ((c : Thread nD τ).loc main_v26) = shapeCast S16x1024x1 (idxArr m c) shapeCasts_S16384x1_S16x1024x1
      ∧ r.2.mem ((c : Thread nD τ).loc main_v27) = shapeCast S16x1024x10 (logitsArr m c) shapeCasts_S16384x10_S16x1024x10
      ∧ r.2.mem ((c : Thread nD τ).loc main_v28) = shapeCast S16x1024x10 (policyArr m c) shapeCasts_S16384x10_S16x1024x10
      ∧ r.2.mem ((c : Thread nD τ).loc main_v29) = shapeCast S16x1024x1024 (stateArr m c) shapeCasts_S16384x1024_S16x1024x1024 := by
  refine (θ_run defs _ _).mono (fun r h c => ?_) (run_main m ρ)
  obtain ⟨t0, t1, t2, t3⟩ := tail_read (entry m c)
  have key (b : Ref sig .tc) (h₁ : ∀ w, Pipeline.arrRef spec0 w ≠ b) (h₂ : b.isScoped = false) :=
    ((h c).2 b (Pipeline.mem_restRefs_of b h₂ h₁)).trans (tail_eq m c b)
  refine ⟨(key main_v26 (by decide) (by decide)).trans (t0.trans ?_), (key main_v27 (by decide) (by decide)).trans (t1.trans ?_),
    (key main_v28 (by decide) (by decide)).trans (t2.trans ?_), (key main_v29 (by decide) (by decide)).trans (t3.trans ?_)⟩
  · exact congrArg (shapeCast S16x1024x1 · shapeCasts_S16384x1_S16x1024x1) ((entry_arr m c 13).trans (final_idx m c))
  · exact congrArg (shapeCast S16x1024x10 · shapeCasts_S16384x10_S16x1024x10) ((entry_arr m c 14).trans (final_logits m c))
  · exact congrArg (shapeCast S16x1024x10 · shapeCasts_S16384x10_S16x1024x10) ((entry_arr m c 15).trans (final_policy m c))
  · exact congrArg (shapeCast S16x1024x1024 · shapeCasts_S16384x1024_S16x1024x1024) ((entry_arr m c 16).trans (final_state m c))

end Cert.KernelIdeal.Array
-- ==== Proof.Noise.lean ====
/-
  THE NOISE. Both programs draw one array of Gumbel noise [16384, 10] from a two-word key by the same counter-based
  generator (threefry-2x32, twenty rounds), then turn its bits into floats: 267 host operations on each side, over
  buffers numbered differently. This module writes that stretch ONCE, over abstract SLOTS (`prog`), and proves about
  any such line what the two sides need: two programs which run it over their own buffers, from contents that agree on
  the slots the line reads, end with contents that agree on every slot it writes (`agree_after`).
-/
module

public import Idealize.ShloMosaic.Lib.StableHlo.Run
public import Idealize.ShloMosaic.Lib.Decide
public import Idealize.ShloMosaic.PureOps
public import Idealize.ShloMosaic.PureOps.Ideal

@[expose] public section

set_option maxRecDepth 16384

noncomputable section

namespace Cert.Noise

open Idealize.ShloMosaic Idealize.ShloMosaic.StableHlo

/-! ## Slots and abstract operations -/

abbrev SN : Shape := ⟨2, ![16384, 10]⟩
abbrev S0 : Shape := ⟨0, ![]⟩
abbrev SI : Shape := ⟨1, ![1]⟩
abbrev SII : Shape := ⟨1, ![2]⟩
abbrev SIxI : Shape := ⟨2, ![1, 1]⟩

/-- The values of the stretch, by kind. -/
inductive Slot
  | key
  | one (n : ℕ)
  | sc (n : ℕ)
  | arr (n : ℕ)
  | bits (n : ℕ)
  | wide (n : ℕ)
  | wsc (n : ℕ)
  | fsc (n : ℕ)
  | fpt (n : ℕ)
  | fl (n : ℕ)
deriving DecidableEq

/-- Each kind's tensor type. -/
abbrev Ty : Slot → BufTy
  | .key => ⟨SII, .i32⟩
  | .one _ => ⟨SI, .i32⟩
  | .sc _ => ⟨S0, .i32⟩
  | .arr _ => ⟨SN, .i32⟩
  | .bits _ => ⟨SN, .i32⟩
  | .wide _ => ⟨SN, .i64⟩
  | .wsc _ => ⟨S0, .i64⟩
  | .fsc _ => ⟨S0, .f32⟩
  | .fpt _ => ⟨SIxI, .f32⟩
  | .fl _ => ⟨SN, .f32⟩

/-- An operation over slots. -/
inductive Op (Val : EltTy → Type)
  | nul (o : Slot) (v : (Ty o).Contents Val)
  | un (i o : Slot) (f : (Ty i).Contents Val → (Ty o).Contents Val)
  | bin (i j o : Slot) (f : (Ty i).Contents Val → (Ty j).Contents Val → (Ty o).Contents Val)
  | resh (i o : Slot) (he : (Ty i).elt = (Ty o).elt) (hn : (Ty i).shape.ShapeCasts (Ty o).shape)

namespace Op

variable {Val : EltTy → Type}

/-- The slot an operation writes. -/
def out : Op Val → Slot
  | nul o _ => o
  | un _ o _ => o
  | bin _ _ o _ => o
  | resh _ o _ _ => o

/-- The slots it reads. -/
def ins : Op Val → List Slot
  | nul _ _ => []
  | un i _ _ => [i]
  | bin i j _ _ => [i, j]
  | resh i _ _ _ => [i]

/-- The operation over a program's own buffers. -/
abbrev real {τ : Topo} {sig : RefSig} (ρ : ∀ s, TRef sig (Ty s)) : Op Val → HloOp τ sig Val
  | nul o v => TRef.nullary (ρ o) v
  | un i o f => TRef.unary (ρ i) (ρ o) f
  | bin i j o f => TRef.binary (ρ i) (ρ j) (ρ o) f
  | resh i o he hn => TRef.reshape (ρ i) (ρ o) he hn

end Op

section Agree

variable {Val : EltTy → Type} {τ τ' : Topo} {sig sig' : RefSig}
variable (ρ : ∀ s, TRef sig (Ty s)) (ρ' : ∀ s, TRef sig' (Ty s))

/-- What a program's contents hold at a slot. -/
abbrev get (V : Valuation τ sig Val) (s : Slot) : (Ty s).Contents Val := (ρ s).ofBuf (V (Proc.devRef .tc (ρ s).ref))

/-- What an operation computes for the slot it writes. -/
def Op.value (op : Op Val) (env : ∀ s, (Ty s).Contents Val) : (Ty op.out).Contents Val :=
  match op with
  | .nul _ v => v
  | .un i _ f => f (env i)
  | .bin i j _ f => f (env i) (env j)
  | .resh i o he hn => fun k => he ▸ shapeCast (Ty o).shape (env i) hn k

/-- A reshape between buffers, read at the values' own types. -/
theorem ofBuf_reshape {Tx To : BufTy} (x : TRef sig Tx) (y : TRef sig To) (he : Tx.elt = To.elt)
    (hn : Tx.shape.ShapeCasts To.shape) (V : Valuation τ sig Val) :
    y.ofBuf ((TRef.reshape x y he hn : HloOp τ sig Val).result V (Proc.devRef .tc y.ref))
      = fun k => he ▸ shapeCast To.shape (x.ofBuf (V (Proc.devRef .tc x.ref))) hn k := by
  obtain ⟨rx, ex, dx, ux⟩ := x
  obtain ⟨ry, ey, dy, uy⟩ := y
  subst ex; subst ey
  exact reshape_result rx ry he hn _ _ V

/-- One operation writes its value … -/
theorem get_result (op : Op Val) (V : Valuation τ sig Val) :
    get ρ ((op.real ρ : HloOp τ sig Val).result V) op.out = op.value (get ρ V) := by
  cases op with
  | nul o v => exact (congrArg (ρ o).ofBuf (nullary_result _ _ _ V)).trans (TRef.ofBuf_toBuf _ _)
  | un i o f => exact (congrArg (ρ o).ofBuf (unary_result _ _ _ _ _ V)).trans (TRef.ofBuf_toBuf _ _)
  | bin i j o f => exact (congrArg (ρ o).ofBuf (binary_result _ _ _ _ _ _ _ V)).trans (TRef.ofBuf_toBuf _ _)
  | resh i o he hn => exact ofBuf_reshape _ _ he hn V

/-- … and writes no other buffer. -/
theorem writes_real (op : Op Val) : (op.real ρ : HloOp τ sig Val).writes = {Proc.devRef .tc (ρ op.out).ref} := by
  cases op <;> rfl

theorem get_result_ne (op : Op Val) (V : Valuation τ sig Val) {s : Slot} (h : (ρ s).ref ≠ (ρ op.out).ref) :
    get ρ ((op.real ρ : HloOp τ sig Val).result V) s = get ρ V s :=
  congrArg (ρ s).ofBuf (result_of_writes_ne _ _ _ _ (writes_real ρ op) h)

/-- An operation's value depends on the slots it reads alone. -/
theorem value_congr (op : Op Val) {e e' : ∀ s, (Ty s).Contents Val} (h : ∀ s ∈ op.ins, e s = e' s) :
    op.value e = op.value e' := by
  cases op with
  | nul o v => rfl
  | un i o f => exact congrArg f (h i (by simp [Op.ins]))
  | bin i j o f => exact congrArg₂ f (h i (by simp [Op.ins])) (h j (by simp [Op.ins]))
  | resh i o he hn =>
    have := h i (by simp [Op.ins])
    simp only [Op.value, this]
    rfl

/-- A line is well formed over the slots `S` known before it: each operation reads known slots and writes one. -/
def WF : List Slot → List (Slot × List Slot) → Bool
  | _, [] => true
  | S, (o, is) :: l => is.all (S.contains ·) && WF (o :: S) l

/-- An operation's slots: the one it writes and those it reads. -/
def Op.slots (op : Op Val) : Slot × List Slot := (op.out, op.ins)

/-- Two programs run one line over their own buffers from contents that agree on the slots `S`: they end agreeing on
    `S` and on every slot the line writes. -/
theorem agree_after : ∀ (l : List (Op Val)) (S : List Slot) (_ : WF S (l.map Op.slots) = true)
    (_ : ∀ s ∈ S ++ l.map Op.out, ∀ t ∈ S ++ l.map Op.out, (ρ s).ref = (ρ t).ref → s = t)
    (_ : ∀ s ∈ S ++ l.map Op.out, ∀ t ∈ S ++ l.map Op.out, (ρ' s).ref = (ρ' t).ref → s = t)
    (V : Valuation τ sig Val) (V' : Valuation τ' sig' Val) (_ : ∀ s ∈ S, get ρ V s = get ρ' V' s),
    ∀ s ∈ S ++ l.map Op.out, get ρ (after (l.map (Op.real ρ)) V) s = get ρ' (after (l.map (Op.real ρ')) V') s
  | [], S, _, _, _, V, V', h => by simpa using h
  | op :: l, S, hw, hi, hi', V, V', h => by
    simp only [List.map_cons, WF, Op.slots, Bool.and_eq_true, List.all_eq_true, List.contains_eq_mem, decide_eq_true_eq] at hw
    have hsub : ∀ s, s ∈ (op.out :: S) ++ l.map Op.out → s ∈ S ++ (op :: l).map Op.out := by
      intro s hs; simp only [List.map_cons, List.mem_append, List.mem_cons] at hs ⊢; tauto
    have key := agree_after l (op.out :: S) hw.2 (fun s hs t ht => hi s (hsub s hs) t (hsub t ht))
      (fun s hs t ht => hi' s (hsub s hs) t (hsub t ht))
      ((op.real ρ).result V) ((op.real ρ').result V') (by
        have hout : get ρ ((op.real ρ).result V) op.out = get ρ' ((op.real ρ').result V') op.out := by
          rw [get_result, get_result]; exact value_congr op fun s hs => h s (hw.1 s hs)
        intro s hs
        by_cases e : s = op.out
        · subst e; exact hout
        · have hS : s ∈ S := by rcases List.mem_cons.mp hs with h1 | h1 <;> tauto
          rw [get_result_ne ρ op V (fun he => e (hi s (by simp [hS]) _ (by simp) he)),
            get_result_ne ρ' op V' (fun he => e (hi' s (by simp [hS]) _ (by simp) he))]
          exact h s hS)
    intro s hs
    exact key s (by simp only [List.map_cons, List.mem_append, List.mem_cons] at hs ⊢; tauto)

end Agree

/-! ## The generator's line -/

section Prog

variable {F : FTy → Type} [FloatOps F]

theorem bcN : S0.BroadcastsInDim SN (![] : Fin 0 → Fin SN.rank) := by decide
theorem bcP : S0.BroadcastsInDim SIxI (![] : Fin 0 → Fin SIxI.rank) := by decide
theorem bcPN : SIxI.BroadcastsInDim SN (![0, 1] : Fin 2 → Fin SN.rank) := by decide
theorem slice0 : SII.Slices ![0] SI := by decide
theorem slice1 : SII.Slices ![1] SI := by decide
theorem castI : SI.ShapeCasts S0 := by decide
theorem lt64 : 32 < 64 := by decide

/-- A scalar word spread over the array. -/
abbrev spread (c m : ℕ) : Op (Elt F) := .un (.sc c) (.arr m) (broadcastInDim SN ![] bcN)
/-- A word constant. -/
abbrev word (c v : ℕ) : Op (Elt F) := .nul (.sc c) (constantI S0 32 (BitVec.ofNat 32 v))

/-- One round: `x ← x + y`, `y ← rot y r ⊕ x`, its seven arrays from `m` on and its two constants from `c` on. -/
abbrev round (x y m c r : ℕ) : List (Op (Elt F)) :=
  [ .bin (.arr x) (.arr y) (.arr m) addi,
    word c r, spread c (m + 1), .bin (.arr y) (.arr (m + 1)) (.arr (m + 2)) Host.shli,
    word (c + 1) (32 - r), spread (c + 1) (m + 3), .bin (.arr y) (.arr (m + 3)) (.arr (m + 4)) Host.shrui,
    .bin (.arr (m + 2)) (.arr (m + 4)) (.arr (m + 5)) ori,
    .bin (.arr m) (.arr (m + 5)) (.arr (m + 6)) xori ]

/-- Key injection `g`: `x ← x + k`, `y ← y + k' + g`. -/
abbrev inject (k k' g x y m c : ℕ) : List (Op (Elt F)) :=
  [ spread k m, .bin (.arr x) (.arr m) (.arr (m + 1)) addi,
    spread k' (m + 2), .bin (.arr y) (.arr (m + 2)) (.arr (m + 3)) addi,
    word c g, spread c (m + 4), .bin (.arr (m + 3)) (.arr (m + 4)) (.arr (m + 5)) addi ]

/-- Four rounds, then a key injection. -/
abbrev group (x y m c r₁ r₂ r₃ r₄ k k' g : ℕ) : List (Op (Elt F)) :=
  round x y m c r₁ ++ (round m (m + 6) (m + 7) (c + 2) r₂ ++ (round (m + 7) (m + 13) (m + 14) (c + 4) r₃ ++
    (round (m + 14) (m + 20) (m + 21) (c + 6) r₄ ++ inject k k' g (m + 21) (m + 27) (m + 28) (c + 8))))

/-- The range's end points, the key's two words, and the counter of each entry: its flat index, as two words. -/
abbrev counters : List (Op (Elt F)) :=
  [ .nul (.fsc 0) (constant S0 .f32 0x3F800000#32),
    .nul (.fsc 1) (constant S0 .f32 0x00800000#32),
    .un (.fsc 0) (.fsc 2) id,
    .un (.fsc 1) (.fpt 0) (broadcastInDim SIxI ![] bcP),
    .un (.fsc 2) (.fpt 1) (broadcastInDim SIxI ![] bcP),
    .un .key (.one 0) (extractStridedSlice SI ![0] · slice0),
    .resh (.one 0) (.sc 0) (rfl : (.i32 : EltTy) = .i32) castI,
    .un .key (.one 1) (extractStridedSlice SI ![1] · slice1),
    .resh (.one 1) (.sc 1) (rfl : (.i32 : EltTy) = .i32) castI,
    .nul (.wide 0) (iotaInDim SN 64 0),
    .nul (.wide 1) (iotaInDim SN 64 1),
    .nul (.wsc 0) (constantI S0 64 10#64),
    .un (.wsc 0) (.wide 2) (broadcastInDim SN ![] bcN),
    .bin (.wide 2) (.wide 0) (.wide 3) muli,
    .nul (.wsc 1) (constantI S0 64 1#64),
    .un (.wsc 1) (.wide 4) (broadcastInDim SN ![] bcN),
    .bin (.wide 4) (.wide 1) (.wide 5) muli,
    .bin (.wide 3) (.wide 5) (.wide 6) addi,
    .nul (.wsc 2) (constantI S0 64 32#64),
    .un (.wsc 2) (.wide 7) (broadcastInDim SN ![] bcN),
    .bin (.wide 6) (.wide 7) (.wide 8) Host.shrui,
    .un (.wide 6) (.bits 0) (trunci 32 · lt64),
    .un (.wide 8) (.bits 1) (trunci 32 · lt64) ]

/-- The third key word and the first additions. -/
abbrev start : List (Op (Elt F)) :=
  [ .bin (.sc 0) (.sc 1) (.sc 2) xori, word 3 466688986, .bin (.sc 2) (.sc 3) (.sc 4) xori,
    spread 0 2, .bin (.bits 1) (.arr 2) (.arr 3) addi,
    spread 1 4, .bin (.bits 0) (.arr 4) (.arr 5) addi ]

/-- The twenty rounds. -/
abbrev rounds : List (Op (Elt F)) :=
  group 3 5 6 5 13 15 26 6 1 4 1 ++ (group 35 39 40 14 17 29 16 24 4 0 2 ++ (group 69 73 74 23 13 15 26 6 0 1 3 ++
    (group 103 107 108 32 17 29 16 24 1 4 4 ++ group 137 141 142 41 13 15 26 6 4 0 5)))

/-- The words as floats in the range, and two negated logarithms. -/
abbrev floats : List (Op (Elt F)) :=
  [ .bin (.arr 171) (.arr 175) (.bits 2) xori,
    word 50 9, .un (.sc 50) (.bits 3) (broadcastInDim SN ![] bcN), .bin (.bits 2) (.bits 3) (.bits 4) Host.shrui,
    word 51 1065353216, .un (.sc 51) (.bits 5) (broadcastInDim SN ![] bcN), .bin (.bits 4) (.bits 5) (.bits 6) ori,
    .un (.bits 6) (.fl 0) (bitcastToFloat .f32),
    .nul (.fsc 3) (constant S0 .f32 0x3F800000#32), .un (.fsc 3) (.fl 1) (broadcastInDim SN ![] bcN),
    .bin (.fl 0) (.fl 1) (.fl 2) subf,
    .bin (.fpt 1) (.fpt 0) (.fpt 2) subf, .un (.fpt 2) (.fl 3) (broadcastInDim SN ![0, 1] bcPN),
    .bin (.fl 2) (.fl 3) (.fl 4) mulf,
    .un (.fpt 0) (.fl 5) (broadcastInDim SN ![0, 1] bcPN), .bin (.fl 4) (.fl 5) (.fl 6) addf,
    .un (.fpt 0) (.fl 7) (broadcastInDim SN ![0, 1] bcPN), .bin (.fl 7) (.fl 6) (.fl 8) maximumf,
    .un (.fl 8) (.fl 9) Host.log, .un (.fl 9) (.fl 10) Host.negf,
    .un (.fl 10) (.fl 11) Host.log, .un (.fl 11) (.fl 12) Host.negf ]

/-- The whole stretch. -/
abbrev prog : List (Op (Elt F)) := counters ++ (start ++ (rounds ++ floats))

theorem prog_length : (prog (F := F)).length = 267 := rfl

/-- The slots it writes, in order. -/
abbrev outs : List Slot := (prog (F := Ideal)).map Op.out
theorem prog_outs : (prog (F := F)).map Op.out = outs := rfl

/-- Each operation reads slots written before it. -/
theorem prog_wf : WF [.key] ((prog (F := F)).map Op.slots) = true := by rfl

theorem bcI : S0.BroadcastsInDim SI (![] : Fin 0 → Fin SI.rank) := by decide
theorem catI : Shape.Concatenates [SI, SI] SII 0 := by decide

/-- The key both programs draw from: the two words of the seed. -/
def seed : (Ty .key).Contents (Elt F) :=
  concatenate SII 0 [⟨SI, broadcastInDim SI ![] bcI (Host.shrui (constantI S0 32 12345#32) (constantI S0 32 32#32))⟩,
    ⟨SI, broadcastInDim SI ![] bcI (andi (constantI S0 32 12345#32) (constantI S0 32 4294967295#32))⟩] catI

end Prog

end Cert.Noise
-- ==== Proof.KernelNoise.lean ====
/-
  THE KERNEL'S NOISE STRETCH is the generator's line (Noise.lean) over the kernel program's own buffers.
-/
module

public import proofs.«01_k».proof.Proof.Noise
public import proofs.«01_k».proof.Proof.Gen.KernelIdeal.Launch

@[expose] public section

set_option maxRecDepth 16384

noncomputable section

namespace Cert.KernelIdeal.NoiseAt

open Cert.KernelIdeal Cert.KernelIdeal.Gen

open Idealize.ShloMosaic Idealize.ShloMosaic.TcCoe Idealize.ShloMosaic.StableHlo
open Idealize.SL.Sem

variable {F : FTy → Type} [FloatOps F]

/-- The buffers of the generator's call, of the uniform draw's and of the noise's. -/
abbrev T : fn_threefry2x32.Bufs := main_call0_call0_call0
@[inherit_doc T] abbrev U : fn_uniform.Bufs := main_call0_call0
@[inherit_doc T] abbrev G : fn_gumbel.Bufs := main_call0

/-- The scalar words and the arrays of words, in the slots' order. -/
abbrev scalars : List (TRef sig ⟨S_, .i32⟩) :=
  [
      U.v4, U.v6, T.v0, T.c, T.v1, T.c_0, T.c_1, T.c_2, T.c_3, T.c_4, T.c_5, T.c_6, T.c_7, T.c_8, T.c_9, T.c_10,
      T.c_11, T.c_12, T.c_13, T.c_14, T.c_15, T.c_16, T.c_17, T.c_18, T.c_19, T.c_20, T.c_21, T.c_22, T.c_23,
      T.c_24, T.c_25, T.c_26, T.c_27, T.c_28, T.c_29, T.c_30, T.c_31, T.c_32, T.c_33, T.c_34, T.c_35, T.c_36,
      T.c_37, T.c_38, T.c_39, T.c_40, T.c_41, T.c_42, T.c_43, T.c_44, U.c_2, U.c_3 ]
@[inherit_doc scalars] abbrev arrays : List (TRef sig ⟨S16384x10, .i32⟩) :=
  [
      T.v2, T.v2, T.v2, T.v3, T.v4, T.v5, T.v6, T.v7, T.v8, T.v9, T.v10, T.v11, T.v12, T.v13, T.v14, T.v15, T.v16,
      T.v17, T.v18, T.v19, T.v20, T.v21, T.v22, T.v23, T.v24, T.v25, T.v26, T.v27, T.v28, T.v29, T.v30, T.v31,
      T.v32, T.v33, T.v34, T.v35, T.v36, T.v37, T.v38, T.v39, T.v40, T.v41, T.v42, T.v43, T.v44, T.v45, T.v46,
      T.v47, T.v48, T.v49, T.v50, T.v51, T.v52, T.v53, T.v54, T.v55, T.v56, T.v57, T.v58, T.v59, T.v60, T.v61,
      T.v62, T.v63, T.v64, T.v65, T.v66, T.v67, T.v68, T.v69, T.v70, T.v71, T.v72, T.v73, T.v74, T.v75, T.v76,
      T.v77, T.v78, T.v79, T.v80, T.v81, T.v82, T.v83, T.v84, T.v85, T.v86, T.v87, T.v88, T.v89, T.v90, T.v91,
      T.v92, T.v93, T.v94, T.v95, T.v96, T.v97, T.v98, T.v99, T.v100, T.v101, T.v102, T.v103, T.v104, T.v105,
      T.v106, T.v107, T.v108, T.v109, T.v110, T.v111, T.v112, T.v113, T.v114, T.v115, T.v116, T.v117, T.v118,
      T.v119, T.v120, T.v121, T.v122, T.v123, T.v124, T.v125, T.v126, T.v127, T.v128, T.v129, T.v130, T.v131,
      T.v132, T.v133, T.v134, T.v135, T.v136, T.v137, T.v138, T.v139, T.v140, T.v141, T.v142, T.v143, T.v144,
      T.v145, T.v146, T.v147, T.v148, T.v149, T.v150, T.v151, T.v152, T.v153, T.v154, T.v155, T.v156, T.v157,
      T.v158, T.v159, T.v160, T.v161, T.v162, T.v163, T.v164, T.v165, T.v166, T.v167, T.v168, T.v169, T.v170,
      T.v171, T.v172, T.v173, T.v174, T.v175 ]

/-- Each slot's buffer. -/
abbrev at_ : ∀ s : Noise.Slot, TRef sig (Noise.Ty s)
  | .key => .of main_v15
  | .one n => [U.v3, U.v5].getD n U.v3
  | .sc n => scalars.getD n U.v4
  | .arr n => arrays.getD n T.v2
  | .bits n => [U.v16, U.v17, U.v19, U.v20, U.v21, U.v22, U.v23].getD n U.v16
  | .wide n => [U.v7, U.v8, U.v9, U.v10, U.v11, U.v12, U.v13, U.v14, U.v15].getD n U.v7
  | .wsc n => [U.c, U.c_0, U.c_1].getD n U.c
  | .fsc n => [G.cst, G.cst_0, U.v0, U.cst].getD n G.cst
  | .fpt n => [U.v1, U.v2, U.v27].getD n U.v1
  | .fl n => [U.v24, U.v25, U.v26, U.v28, U.v29, U.v30, U.v31, U.v32, U.v33, G.v1, G.v2, G.v3, G.v4].getD n U.v24

/-- Distinct slots are distinct buffers, among the key and the slots the line writes. -/
theorem inj : ∀ s ∈ [Noise.Slot.key] ++ (Noise.prog (F := F)).map Noise.Op.out,
    ∀ t ∈ [Noise.Slot.key] ++ (Noise.prog (F := F)).map Noise.Op.out, (at_ s).ref = (at_ t).ref → s = t := by
  have h : (([Noise.Slot.key] ++ Noise.outs).map fun s => (at_ s).ref.idx.val).Nodup := by decide +kernel
  rw [Noise.prog_outs]
  intro s hs t ht e
  exact List.inj_on_of_nodup_map h hs ht (by rw [e])

/-- The kernel program's stretch of 267 operations. -/
theorem ops_eq : (hostOps0_1 : List (HloOp τ sig (Elt F))) = (Noise.prog (F := F)).map (Noise.Op.real at_) := by rfl

end Cert.KernelIdeal.NoiseAt
-- ==== Proof.Args.lean ====
/-
  What one batch entry `(p, q)` of the programs' argument arrays and one row of noise amount to: the row's data, the common
  term both programs' results are stated in.
-/
module

public import proofs.«01_k».proof.Proof.Spec
public import Idealize.ShloMosaic.Lib.Pointwise

@[expose] public section

noncomputable section

open Idealize.ShloMosaic

namespace Cert.Args

/-- The row of the flattened batch at `(p, q)`. -/
def at_ (p : Fin 16) (q : Fin 1024) : Fin 16384 := ⟨1024 * p.val + q.val, by omega⟩

theorem at_val (p : Fin 16) (q : Fin 1024) : (at_ p q).val = 1024 * p.val + q.val := rfl

/-- A mask bit as the extended real zero or one. -/
def bit (b : BitVec 1) : EReal := ((b.toNat : ℝ) : EReal)

theorem bit_pos (b : BitVec 1) : 0 < bit b ↔ b = 1#1 := by
  have h : b = 0#1 ∨ b = 1#1 := by
    have := b.isLt
    rcases (show b.toNat = 0 ∨ b.toNat = 1 by omega) with h | h
    · exact .inl (BitVec.eq_of_toNat_eq (by simpa using h))
    · exact .inr (BitVec.eq_of_toNat_eq (by simpa using h))
  rcases h with rfl | rfl <;> simp [bit]

/-- The moves' entry below four, the switches' from four on. -/
def pair {α : Type} (f : Fin 4 → α) (g : Fin 6 → α) (n : Fin 10) : α :=
  if h : n.val < 4 then f ⟨n.val, h⟩ else g ⟨n.val - 4, by omega⟩

theorem pair_lt {α : Type} (f : Fin 4 → α) (g : Fin 6 → α) {n : Fin 10} (h : n.val < 4) : pair f g n = f ⟨n.val, h⟩ := dif_pos h

theorem pair_ge {α : Type} (f : Fin 4 → α) (g : Fin 6 → α) {n : Fin 10} (h : ¬ n.val < 4) : pair f g n = g ⟨n.val - 4, by omega⟩ :=
  dif_neg h

/-- The data of the batch entry `(p, q)`. -/
def data (a0 : (⟨3, ![16, 1024, 1024]⟩ : Shape).Idx → EReal) (a1 : (⟨5, ![16, 1024, 1, 4, 512]⟩ : Shape).Idx → EReal)
    (a2 : (⟨4, ![16, 1024, 6, 512]⟩ : Shape).Idx → EReal) (a3 : (⟨3, ![16, 1024, 4]⟩ : Shape).Idx → BitVec 1)
    (a4 : (⟨3, ![16, 1024, 6]⟩ : Shape).Idx → BitVec 1) (a5 : (⟨2, ![1024, 512]⟩ : Shape).Idx → EReal)
    (a6 : (⟨2, ![512, 512]⟩ : Shape).Idx → EReal) (a7 : (⟨2, ![1024, 512]⟩ : Shape).Idx → EReal)
    (a8 a9 : (⟨2, ![512, 512]⟩ : Shape).Idx → EReal) (a10 : (⟨1, ![512]⟩ : Shape).Idx → EReal)
    (a11 : (⟨2, ![512, 1024]⟩ : Shape).Idx → EReal) (a12 : (⟨1, ![1024]⟩ : Shape).Idx → EReal)
    (noise : (⟨2, ![16384, 10]⟩ : Shape).Idx → EReal) (p : Fin 16) (q : Fin 1024) : Row.Data where
  s d := a0 (ix3 p q d)
  x n j := pair (fun k => a1 (ix5 p q 0 k j)) (fun k => a2 (ix4 p q k j)) n
  mask n := bit (pair (fun k => a3 (ix3 p q k)) (fun k => a4 (ix3 p q k)) n)
  g n := noise (ix2 (at_ p q) n)
  wmq d k := a5 (ix2 d k)
  wsq d k := a7 (ix2 d k)
  wmk d k := a6 (ix2 d k)
  wsk d k := a8 (ix2 d k)
  wp1 d k := a9 (ix2 d k)
  bp1 k := a10 (ix1 k)
  wp2 d k := a11 (ix2 d k)
  bp2 d := a12 (ix1 d)

end Cert.Args
-- ==== Proof.KernelInputs.lean ====
/-
  The kernel's operand arrays in terms of the argument arrays: flattened batches, joined masks, weights as they are, and
  the noise drawn from its key.
-/
module

public import proofs.«01_k».proof.Proof.KernelTail
public import proofs.«01_k».proof.Proof.KernelNoise
public import proofs.«01_k».proof.Proof.Args

@[expose] public section

set_option maxRecDepth 16384

noncomputable section

open Idealize.ShloMosaic Idealize.ShloMosaic.TcCoe Idealize.ShloMosaic.StableHlo
open Idealize.SL.Sem

namespace Cert.KernelIdeal.Inputs

open Cert.KernelIdeal Cert.KernelIdeal.Gen Cert.KernelIdeal.Block

/-! ## The arrays -/

section
variable (a0 : Vec Ideal S16x1024x1024 .f32) (a1 : Vec Ideal S16x1024x1x4x512 .f32) (a2 : Vec Ideal S16x1024x6x512 .f32)
  (a3 : IVec S16x1024x4 1) (a4 : IVec S16x1024x6 1) (a10 : Vec Ideal S512 .f32) (a12 : Vec Ideal S1024 .f32)

abbrev stateIn : Vec Ideal S16384x1024 .f32 := shapeCast S16384x1024 a0 shapeCasts_S16x1024x1024_S16384x1024
abbrev movesIn : FVec Ideal S16384x2048 .bf16 := truncf .bf16 (shapeCast S16384x2048 a1 shapeCasts_S16x1024x1x4x512_S16384x2048 : FVec Ideal S16384x2048 .f32) bitsLt_bf16_f32
abbrev switchesIn : FVec Ideal S16384x3072 .bf16 := truncf .bf16 (shapeCast S16384x3072 a2 shapeCasts_S16x1024x6x512_S16384x3072 : FVec Ideal S16384x3072 .f32) bitsLt_bf16_f32
abbrev maskIn : FVec Ideal S16384x10 .f32 := uitofp .f32 (concatenate S16384x10 1
  [⟨S16384x4, shapeCast S16384x4 a3 shapeCasts_S16x1024x4_S16384x4⟩, ⟨S16384x6, shapeCast S16384x6 a4 shapeCasts_S16x1024x6_S16384x6⟩]
  concatenates_S16384x4_S16384x6_S16384x10_d1 : IVec S16384x10 1)
abbrev bias1In : Vec Ideal S1x512 .f32 := broadcastInDim S1x512 ![1] bcast_S512_S1x512_1 a10
abbrev bias2In : Vec Ideal S1x1024 .f32 := broadcastInDim S1x1024 ![1] bcast_S1024_S1x1024_1 a12

variable (p : Fin 16) (q : Fin 1024)

theorem state_read (d : Fin 1024) : stateIn a0 (ix2 (Args.at_ p q) d) = a0 (ix3 p q d) :=
  Idealize.ShloMosaic.shapeCast_apply a0 _ _ _ (by
    rw [Shape.rowMajor_val_three, Shape.rowMajor_val_two]
    show (p.val * 1024 + q.val) * 1024 + d.val = (Args.at_ p q).val * 1024 + d.val
    rw [Args.at_val]; omega)

theorem moves_read (n : Fin 10) (h : n.val < 4) (j : Fin 512) :
    movesIn a1 (ix2 (Args.at_ p q) ⟨512 * n.val + j.val, by omega⟩) = a1 (ix5 p q 0 ⟨n.val, h⟩ j) :=
  Idealize.ShloMosaic.shapeCast_apply a1 _ _ _ (by
    rw [Shape.rowMajor_val_five, Shape.rowMajor_val_two]
    show (((p.val * 1024 + q.val) * 1 + 0) * 4 + n.val) * 512 + j.val = (Args.at_ p q).val * 2048 + (512 * n.val + j.val)
    rw [Args.at_val]; omega)

theorem switches_read (n : Fin 10) (h : ¬ n.val < 4) (j : Fin 512) :
    switchesIn a2 (ix2 (Args.at_ p q) ⟨512 * (n.val - 4) + j.val, by omega⟩) = a2 (ix4 p q ⟨n.val - 4, by omega⟩ j) :=
  Idealize.ShloMosaic.shapeCast_apply a2 _ _ _ (by
    rw [Shape.rowMajor_val_four, Shape.rowMajor_val_two]
    show ((p.val * 1024 + q.val) * 6 + (n.val - 4)) * 512 + j.val = (Args.at_ p q).val * 3072 + (512 * (n.val - 4) + j.val)
    rw [Args.at_val]; omega)

theorem mask_read (n : Fin 10) : maskIn a3 a4 (ix2 (Args.at_ p q) n)
    = Args.bit (Args.pair (fun k => a3 (ix3 p q k)) (fun k => a4 (ix3 p q k)) n) := by
  have hp : (Args.at_ p q).val / 1024 = p.val := by rw [Args.at_val]; omega
  have hq : (Args.at_ p q).val % 1024 = q.val := by rw [Args.at_val]; omega
  by_cases h : n.val < 4
  · rw [Args.pair_lt _ _ h]
    pointwise
    simp only [hp, hq, Fin.eta, dif_pos h]
    rfl
  · rw [Args.pair_ge _ _ h]
    pointwise
    simp only [hp, hq, Fin.eta, dif_neg h]
    rfl

theorem bias1_read (k : Fin 512) (o : Fin 1) : bias1In a10 (ix2 o k) = a10 (ix1 k) := by pointwise
theorem bias2_read (k : Fin 1024) (o : Fin 1) : bias2In a12 (ix2 o k) = a12 (ix1 k) := by pointwise

/-- A row of the arrays so laid out is the batch entry's data. -/
theorem data_args {x0 : S16384x10.Idx → EReal} {x1 : S16384x1024.Idx → EReal} {x2 : S16384x2048.Idx → EReal}
    {x3 : S16384x3072.Idx → EReal} {x4 : S16384x10.Idx → EReal} {a5 a7 x5 x6 : S1024x512.Idx → EReal} {a6 a8 a9 x7 x8 x9 : S512x512.Idx → EReal}
    {x10 : S1x512.Idx → EReal} {a11 x11 : S512x1024.Idx → EReal} {x12 : S1x1024.Idx → EReal}
    (h1 : x1 = stateIn a0) (h2 : x2 = movesIn a1) (h3 : x3 = switchesIn a2) (h4 : x4 = maskIn a3 a4) (h5 : x5 = a5) (h6 : x6 = a7)
    (h7 : x7 = a6) (h8 : x8 = a8) (h9 : x9 = a9) (h10 : x10 = bias1In a10) (h11 : x11 = a11) (h12 : x12 = bias2In a12) :
    data (M := 16384) x0 x1 x2 x3 x4 x5 x6 x7 x8 x9 x10 x11 x12 (Args.at_ p q)
      = Args.data a0 a1 a2 a3 a4 a5 a6 a7 a8 a9 a10 a11 a12 x0 p q := by
  subst h1 h2 h3 h4 h5 h6 h7 h8 h9 h10 h11 h12
  unfold data Args.data
  congr 1
  · exact funext fun d => state_read a0 p q d
  · funext n j
    by_cases h : n.val < 4
    · rw [Args.pair_lt _ _ h, dif_pos h]; exact moves_read a1 p q n h j
    · rw [Args.pair_ge _ _ h, dif_neg h]; exact switches_read a2 p q n h j
  · exact funext fun n => mask_read a3 a4 p q n
  · exact funext fun k => bias1_read a10 k 0
  · exact funext fun k => bias2_read a12 k 0
end

/-! ## The operand arrays as the kernel finds them -/

/-- The first stretch over any contents of the buffers. -/
theorem front_read (A : Valuation τ sig (Elt Ideal)) :
    after (hostOps0 (F := Ideal)) A (Proc.devRef .tc main_v0) = stateIn (A (Proc.devRef .tc main_arg0))
    ∧ after (hostOps0 (F := Ideal)) A (Proc.devRef .tc main_v2) = movesIn (A (Proc.devRef .tc main_arg1))
    ∧ after (hostOps0 (F := Ideal)) A (Proc.devRef .tc main_v4) = switchesIn (A (Proc.devRef .tc main_arg2))
    ∧ after (hostOps0 (F := Ideal)) A (Proc.devRef .tc main_v8) = maskIn (A (Proc.devRef .tc main_arg3)) (A (Proc.devRef .tc main_arg4)) := by
  refine ⟨?_, ?_, ?_, ?_⟩ <;> after_results <;> rfl

/-- The key the noise is drawn from. -/
theorem front_key (A : Valuation τ sig (Elt Ideal)) :
    after (hostOps0 (F := Ideal)) A (Proc.devRef .tc main_v15) = Noise.seed (F := Ideal) := by
  after_results <;> rfl

/-- The last stretch over any contents of the buffers. -/
theorem back_read (A : Valuation τ sig (Elt Ideal)) :
    after (hostOps0_2 (F := Ideal)) A (Proc.devRef .tc main_v17) = A (Proc.devRef .tc main_arg5)
    ∧ after (hostOps0_2 (F := Ideal)) A (Proc.devRef .tc main_v18) = A (Proc.devRef .tc main_arg7)
    ∧ after (hostOps0_2 (F := Ideal)) A (Proc.devRef .tc main_v19) = A (Proc.devRef .tc main_arg6)
    ∧ after (hostOps0_2 (F := Ideal)) A (Proc.devRef .tc main_v20) = A (Proc.devRef .tc main_arg8)
    ∧ after (hostOps0_2 (F := Ideal)) A (Proc.devRef .tc main_v21) = A (Proc.devRef .tc main_arg9)
    ∧ after (hostOps0_2 (F := Ideal)) A (Proc.devRef .tc main_v22) = bias1In (A (Proc.devRef .tc main_arg10))
    ∧ after (hostOps0_2 (F := Ideal)) A (Proc.devRef .tc main_v23) = A (Proc.devRef .tc main_arg11)
    ∧ after (hostOps0_2 (F := Ideal)) A (Proc.devRef .tc main_v24) = bias2In (A (Proc.devRef .tc main_arg12)) := by
  refine ⟨?_, ?_, ?_, ?_, ?_, ?_, ?_, ?_⟩ <;> after_results <;> rfl

/-- What each stretch writes. -/
abbrev front_W : List (Ref sig .tc) :=
  [main_v0, main_v1, main_v2, main_v3, main_v4, main_v5, main_v6, main_v7, main_v8, main_c, main_c_0, main_v9, main_v10, main_v11,
    main_c_1, main_v12, main_v13, main_v14, main_v15]
@[inherit_doc front_W] abbrev noise_W : List (Ref sig .tc) := Noise.outs.map fun s => (NoiseAt.at_ s).ref
@[inherit_doc front_W] abbrev back_W : List (Ref sig .tc) := [main_v17, main_v18, main_v19, main_v20, main_v21, main_v22, main_v23, main_v24]

theorem front_keep {b : Ref sig .tc} (h : b ∉ front_W) (A : Valuation τ sig (Elt Ideal)) :
    after (hostOps0 (F := Ideal)) A (Proc.devRef .tc b) = A (Proc.devRef .tc b) :=
  after_of_writes_sub (W := front_W) _ A (forall_writes_sub_of_map rfl) h

theorem back_keep {b : Ref sig .tc} (h : b ∉ back_W) (A : Valuation τ sig (Elt Ideal)) :
    after (hostOps0_2 (F := Ideal)) A (Proc.devRef .tc b) = A (Proc.devRef .tc b) :=
  after_of_writes_sub (W := back_W) _ A (forall_writes_sub_of_map rfl) h

theorem noise_keep {b : Ref sig .tc} (h : b ∉ noise_W) (A : Valuation τ sig (Elt Ideal)) :
    after (hostOps0_1 (F := Ideal)) A (Proc.devRef .tc b) = A (Proc.devRef .tc b) := by
  rw [NoiseAt.ops_eq]
  refine after_of_writes_sub (W := noise_W) _ A (forall_writes_sub_of_map ?_) h
  rw [noise_W, ← Noise.prog_outs (F := Ideal), List.map_map, List.map_map, List.map_map]
  exact List.map_congr_left fun op _ => Noise.writes_real NoiseAt.at_ op

theorem three {l₁ l₂ l₃ : List (HloOp τ sig (Elt Ideal))} (A : Valuation τ sig (Elt Ideal)) :
    after [l₁, l₂, l₃].flatten A = after l₃ (after l₂ (after l₁ A)) := by
  have app (a b : List (HloOp τ sig (Elt Ideal))) (A) : after (a ++ b) A = after b (after a A) := by
    induction a generalizing A with
    | nil => rfl
    | cons op a ih => exact ih _
  rw [List.flatten_cons, List.flatten_cons, List.flatten_cons, List.flatten_nil, List.append_nil, app, app]

variable (m : (ℓ : Loc nD τ sig) → Buf (Elt Ideal) ℓ) (c : Dev nD)

/-- The contents as launched, and after each stretch. -/
def E0 : Valuation τ sig (Elt Ideal) := fun b => m (c, b)
@[inherit_doc E0] def E1 : Valuation τ sig (Elt Ideal) := after (hostOps0 (F := Ideal)) (E0 m c)
@[inherit_doc E0] def E2 : Valuation τ sig (Elt Ideal) := after (hostOps0_1 (F := Ideal)) (E1 m c)

theorem V_eq (b : Ref sig .tc) : V m c b = after (hostOps0_2 (F := Ideal)) (E2 m c) (Proc.devRef .tc b) :=
  congrFun (three (E0 m c)) _

/-- An operand the first stretch makes, and an argument. -/
theorem V_front {b : Ref sig .tc} (h2 : b ∉ back_W) (h1 : b ∉ noise_W) :
    V m c b = E1 m c (Proc.devRef .tc b) :=
  (V_eq m c b).trans ((back_keep h2 _).trans (noise_keep h1 _))

theorem E2_arg {b : Ref sig .tc} (h1 : b ∉ noise_W) (h0 : b ∉ front_W) :
    E2 m c (Proc.devRef .tc b) = m ((c : Thread nD τ).loc b) :=
  (noise_keep h1 _).trans (front_keep h0 _)

/-- The noise array. -/
def noise : Vec Ideal S16384x10 .f32 := V m c main_v16

/-- The operand arrays' row at `(p, q)` is the batch entry's data. -/
theorem rowData_eq (p : Fin 16) (q : Fin 1024) :
    Array.rowData m c (Args.at_ p q)
      = Args.data (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) (noise m c) p q := by
  obtain ⟨f0, f2, f4, f8⟩ := front_read (E0 m c)
  obtain ⟨b17, b18, b19, b20, b21, b22, b23, b24⟩ := back_read (E2 m c)
  have front {b : Ref sig .tc} (h2 : b ∉ back_W) (h1 : b ∉ noise_W) := V_front m c h2 h1
  have arg {b : Ref sig .tc} (h1 : b ∉ noise_W) (h0 : b ∉ front_W) := E2_arg m c h1 h0
  have e0 := (front (b := main_v0) (by decide +kernel) (by decide +kernel)).trans f0
  have e2 := (front (b := main_v2) (by decide +kernel) (by decide +kernel)).trans f2
  have e4 := (front (b := main_v4) (by decide +kernel) (by decide +kernel)).trans f4
  have e8 := (front (b := main_v8) (by decide +kernel) (by decide +kernel)).trans f8
  have g5 := (V_eq m c main_v17).trans (b17.trans (arg (by decide +kernel) (by decide +kernel)))
  have g7 := (V_eq m c main_v18).trans (b18.trans (arg (by decide +kernel) (by decide +kernel)))
  have g6 := (V_eq m c main_v19).trans (b19.trans (arg (by decide +kernel) (by decide +kernel)))
  have g8 := (V_eq m c main_v20).trans (b20.trans (arg (by decide +kernel) (by decide +kernel)))
  have g9 := (V_eq m c main_v21).trans (b21.trans (arg (by decide +kernel) (by decide +kernel)))
  have g10 := (V_eq m c main_v22).trans (b22.trans (congrArg bias1In (arg (by decide +kernel) (by decide +kernel))))
  have g11 := (V_eq m c main_v23).trans (b23.trans (arg (by decide +kernel) (by decide +kernel)))
  have g12 := (V_eq m c main_v24).trans (b24.trans (congrArg bias2In (arg (by decide +kernel) (by decide +kernel))))
  exact data_args _ _ _ _ _ _ _ p q e0 e2 e4 e8 g5 g7 g6 g8 g9 g10 g11 g12

end Cert.KernelIdeal.Inputs
-- ==== Proof.RefRun.lean ====
/-
  THE REFERENCE'S RUN. The reference program is one straight line of host operations; here it is cut into stages, its
  run is the fold of the stages' operations over the launch contents (`run`), and its frame claim follows (`frame`).
-/
module

public import proofs.«01_k».proof.Defs
public import proofs.«01_k».proof.Proof.Noise
public import proofs.«01_k».proof.Proof.Gen.ReferenceIdeal
public import Idealize.ShloMosaic.Lib.Pipeline.Regions
public import Idealize.ShloMosaic.Lib.Quiescent

@[expose] public section

set_option maxRecDepth 16384

noncomputable section

namespace Cert.ReferenceIdeal.Run

open Cert.ReferenceIdeal Cert.ReferenceIdeal.Gen

open Idealize.ShloMosaic Idealize.ShloMosaic.TcCoe Idealize.ShloMosaic.StableHlo
open Idealize.SL.Sem

variable {F : FTy → Type} [FloatOps F]

/-! ## The noise stretch -/

/-- The buffers of the generator's call, of the uniform draw's and of the noise's. -/
abbrev T : fn_threefry2x32.Bufs := main_call1_call0_call0
@[inherit_doc T] abbrev U : fn_uniform.Bufs := main_call1_call0
@[inherit_doc T] abbrev G : fn_gumbel.Bufs := main_call1

/-- The scalar words and the arrays of words, in the slots' order. -/
abbrev scalars : List (TRef sig ⟨S_, .i32⟩) :=
  [
      U.v4, U.v6, T.v0, T.c, T.v1, T.c_0, T.c_1, T.c_2, T.c_3, T.c_4, T.c_5, T.c_6, T.c_7, T.c_8, T.c_9, T.c_10,
      T.c_11, T.c_12, T.c_13, T.c_14, T.c_15, T.c_16, T.c_17, T.c_18, T.c_19, T.c_20, T.c_21, T.c_22, T.c_23,
      T.c_24, T.c_25, T.c_26, T.c_27, T.c_28, T.c_29, T.c_30, T.c_31, T.c_32, T.c_33, T.c_34, T.c_35, T.c_36,
      T.c_37, T.c_38, T.c_39, T.c_40, T.c_41, T.c_42, T.c_43, T.c_44, U.c_2, U.c_3 ]
@[inherit_doc scalars] abbrev arrays : List (TRef sig ⟨S16384x10, .i32⟩) :=
  [
      T.v2, T.v2, T.v2, T.v3, T.v4, T.v5, T.v6, T.v7, T.v8, T.v9, T.v10, T.v11, T.v12, T.v13, T.v14, T.v15, T.v16,
      T.v17, T.v18, T.v19, T.v20, T.v21, T.v22, T.v23, T.v24, T.v25, T.v26, T.v27, T.v28, T.v29, T.v30, T.v31,
      T.v32, T.v33, T.v34, T.v35, T.v36, T.v37, T.v38, T.v39, T.v40, T.v41, T.v42, T.v43, T.v44, T.v45, T.v46,
      T.v47, T.v48, T.v49, T.v50, T.v51, T.v52, T.v53, T.v54, T.v55, T.v56, T.v57, T.v58, T.v59, T.v60, T.v61,
      T.v62, T.v63, T.v64, T.v65, T.v66, T.v67, T.v68, T.v69, T.v70, T.v71, T.v72, T.v73, T.v74, T.v75, T.v76,
      T.v77, T.v78, T.v79, T.v80, T.v81, T.v82, T.v83, T.v84, T.v85, T.v86, T.v87, T.v88, T.v89, T.v90, T.v91,
      T.v92, T.v93, T.v94, T.v95, T.v96, T.v97, T.v98, T.v99, T.v100, T.v101, T.v102, T.v103, T.v104, T.v105,
      T.v106, T.v107, T.v108, T.v109, T.v110, T.v111, T.v112, T.v113, T.v114, T.v115, T.v116, T.v117, T.v118,
      T.v119, T.v120, T.v121, T.v122, T.v123, T.v124, T.v125, T.v126, T.v127, T.v128, T.v129, T.v130, T.v131,
      T.v132, T.v133, T.v134, T.v135, T.v136, T.v137, T.v138, T.v139, T.v140, T.v141, T.v142, T.v143, T.v144,
      T.v145, T.v146, T.v147, T.v148, T.v149, T.v150, T.v151, T.v152, T.v153, T.v154, T.v155, T.v156, T.v157,
      T.v158, T.v159, T.v160, T.v161, T.v162, T.v163, T.v164, T.v165, T.v166, T.v167, T.v168, T.v169, T.v170,
      T.v171, T.v172, T.v173, T.v174, T.v175 ]

/-- Each slot's buffer. -/
abbrev at_ : ∀ s : Noise.Slot, TRef sig (Noise.Ty s)
  | .key => .of main_v35
  | .one n => [U.v3, U.v5].getD n U.v3
  | .sc n => scalars.getD n U.v4
  | .arr n => arrays.getD n T.v2
  | .bits n => [U.v16, U.v17, U.v19, U.v20, U.v21, U.v22, U.v23].getD n U.v16
  | .wide n => [U.v7, U.v8, U.v9, U.v10, U.v11, U.v12, U.v13, U.v14, U.v15].getD n U.v7
  | .wsc n => [U.c, U.c_0, U.c_1].getD n U.c
  | .fsc n => [G.cst, G.cst_0, U.v0, U.cst].getD n G.cst
  | .fpt n => [U.v1, U.v2, U.v27].getD n U.v1
  | .fl n => [U.v24, U.v25, U.v26, U.v28, U.v29, U.v30, U.v31, U.v32, U.v33, G.v1, G.v2, G.v3, G.v4].getD n U.v24

/-- Distinct slots are distinct buffers, among the key and the slots the line writes. -/
theorem inj : ∀ s ∈ [Noise.Slot.key] ++ (Noise.prog (F := F)).map Noise.Op.out,
    ∀ t ∈ [Noise.Slot.key] ++ (Noise.prog (F := F)).map Noise.Op.out, (at_ s).ref = (at_ t).ref → s = t := by
  have h : (([Noise.Slot.key] ++ Noise.outs).map fun s => (at_ s).ref.idx.val).Nodup := by decide +kernel
  rw [Noise.prog_outs]
  intro s hs t ht e
  exact List.inj_on_of_nodup_map h hs ht (by rw [e])

/-! ## The stages -/

/-- Queries, keys and the scaled attention logits; the joint keys and masks. -/
abbrev opsLogits : List (HloOp τ sig (Elt F)) :=
  [ StableHlo.reshape main_arg1 main_v0 (rfl : (.f32 : EltTy) = .f32) shapeCasts_S16x1024x1x4x512_S16x1024x4x512,
    StableHlo.binary main_arg0 main_arg5 main_v1 ((fun l r => Host.dotGeneral dot_S16x1024x1024_S1024x512_S16x1024x512_2_0_01_1_n_n none l r) : (⟨S16x1024x1024, .f32⟩ : BufTy).Contents (Elt F) → (⟨S1024x512, .f32⟩ : BufTy).Contents (Elt F) → (⟨S16x1024x512, .f32⟩ : BufTy).Contents (Elt F)),
    StableHlo.binary main_v0 main_arg6 main_v2 ((fun l r => Host.dotGeneral dot_S16x1024x4x512_S512x512_S16x1024x4x512_3_0_012_1_n_n none l r) : (⟨S16x1024x4x512, .f32⟩ : BufTy).Contents (Elt F) → (⟨S512x512, .f32⟩ : BufTy).Contents (Elt F) → (⟨S16x1024x4x512, .f32⟩ : BufTy).Contents (Elt F)),
    StableHlo.binary main_v1 main_v2 main_v3 ((fun l r => Host.dotGeneral dot_S16x1024x512_S16x1024x4x512_S16x1024x4_2_3_n_2_01_01 none l r) : (⟨S16x1024x512, .f32⟩ : BufTy).Contents (Elt F) → (⟨S16x1024x4x512, .f32⟩ : BufTy).Contents (Elt F) → (⟨S16x1024x4, .f32⟩ : BufTy).Contents (Elt F)),
    StableHlo.nullary main_cst (constant S_ .f32 0x41B504F3#32),
    StableHlo.unary main_cst main_v4 (broadcastInDim S16x1024x4 ![] bcast_S_S16x1024x4 : (⟨S_, .f32⟩ : BufTy).Contents (Elt F) → (⟨S16x1024x4, .f32⟩ : BufTy).Contents (Elt F)),
    StableHlo.binary main_v3 main_v4 main_v5 (Host.divf : (⟨S16x1024x4, .f32⟩ : BufTy).Contents (Elt F) → (⟨S16x1024x4, .f32⟩ : BufTy).Contents (Elt F) → (⟨S16x1024x4, .f32⟩ : BufTy).Contents (Elt F)),
    StableHlo.binary main_arg0 main_arg7 main_v6 ((fun l r => Host.dotGeneral dot_S16x1024x1024_S1024x512_S16x1024x512_2_0_01_1_n_n none l r) : (⟨S16x1024x1024, .f32⟩ : BufTy).Contents (Elt F) → (⟨S1024x512, .f32⟩ : BufTy).Contents (Elt F) → (⟨S16x1024x512, .f32⟩ : BufTy).Contents (Elt F)),
    StableHlo.binary main_arg2 main_arg8 main_v7 ((fun l r => Host.dotGeneral dot_S16x1024x6x512_S512x512_S16x1024x6x512_3_0_012_1_n_n none l r) : (⟨S16x1024x6x512, .f32⟩ : BufTy).Contents (Elt F) → (⟨S512x512, .f32⟩ : BufTy).Contents (Elt F) → (⟨S16x1024x6x512, .f32⟩ : BufTy).Contents (Elt F)),
    StableHlo.binary main_v6 main_v7 main_v8 ((fun l r => Host.dotGeneral dot_S16x1024x512_S16x1024x6x512_S16x1024x6_2_3_n_2_01_01 none l r) : (⟨S16x1024x512, .f32⟩ : BufTy).Contents (Elt F) → (⟨S16x1024x6x512, .f32⟩ : BufTy).Contents (Elt F) → (⟨S16x1024x6, .f32⟩ : BufTy).Contents (Elt F)),
    StableHlo.nullary main_cst_0 (constant S_ .f32 0x41B504F3#32),
    StableHlo.unary main_cst_0 main_v9 (broadcastInDim S16x1024x6 ![] bcast_S_S16x1024x6 : (⟨S_, .f32⟩ : BufTy).Contents (Elt F) → (⟨S16x1024x6, .f32⟩ : BufTy).Contents (Elt F)),
    StableHlo.binary main_v8 main_v9 main_v10 (Host.divf : (⟨S16x1024x6, .f32⟩ : BufTy).Contents (Elt F) → (⟨S16x1024x6, .f32⟩ : BufTy).Contents (Elt F) → (⟨S16x1024x6, .f32⟩ : BufTy).Contents (Elt F)),
    StableHlo.binary main_v2 main_v7 main_v11 ((fun a b => concatenate S16x1024x10x512 2 [⟨S16x1024x4x512, a⟩, ⟨S16x1024x6x512, b⟩] concatenates_S16x1024x4x512_S16x1024x6x512_S16x1024x10x512_d2) : (⟨S16x1024x4x512, .f32⟩ : BufTy).Contents (Elt F) → (⟨S16x1024x6x512, .f32⟩ : BufTy).Contents (Elt F) → (⟨S16x1024x10x512, .f32⟩ : BufTy).Contents (Elt F)),
    StableHlo.binary main_arg3 main_arg4 main_v12 ((fun a b => concatenate S16x1024x10 2 [⟨S16x1024x4, a⟩, ⟨S16x1024x6, b⟩] concatenates_S16x1024x4_S16x1024x6_S16x1024x10_d2) : (⟨S16x1024x4, .i1⟩ : BufTy).Contents (Elt F) → (⟨S16x1024x6, .i1⟩ : BufTy).Contents (Elt F) → (⟨S16x1024x10, .i1⟩ : BufTy).Contents (Elt F)),
    StableHlo.binary main_v5 main_v10 main_v13 ((fun a b => concatenate S16x1024x10 2 [⟨S16x1024x4, a⟩, ⟨S16x1024x6, b⟩] concatenates_S16x1024x4_S16x1024x6_S16x1024x10_d2) : (⟨S16x1024x4, .f32⟩ : BufTy).Contents (Elt F) → (⟨S16x1024x6, .f32⟩ : BufTy).Contents (Elt F) → (⟨S16x1024x10, .f32⟩ : BufTy).Contents (Elt F)),
    StableHlo.nullary main_cst_1 (constant S_ .f32 0x404A62C2#32),
    StableHlo.unary main_cst_1 main_v14 (broadcastInDim S16x1024x10 ![] bcast_S_S16x1024x10 : (⟨S_, .f32⟩ : BufTy).Contents (Elt F) → (⟨S16x1024x10, .f32⟩ : BufTy).Contents (Elt F)),
    StableHlo.binary main_v13 main_v14 main_v15 (Host.divf : (⟨S16x1024x10, .f32⟩ : BufTy).Contents (Elt F) → (⟨S16x1024x10, .f32⟩ : BufTy).Contents (Elt F) → (⟨S16x1024x10, .f32⟩ : BufTy).Contents (Elt F)),
    StableHlo.nullary main_cst_2 (constant S_ .f32 0xFF7FFFFF#32) ]
/-- The buffers this stage writes. -/
abbrev opsLogits_W : List (Ref sig .tc) := [main_v0, main_v1, main_v2, main_v3, main_cst, main_v4, main_v5, main_v6, main_v7, main_v8, main_cst_0, main_v9, main_v10, main_v11, main_v12, main_v13, main_cst_1, main_v14, main_v15, main_cst_2]
theorem opsLogits_writes : (opsLogits : List (HloOp τ sig (Elt F))).map HloOp.writes = opsLogits_W.map fun r => {Proc.devRef (τ := τ) .tc r} := rfl
theorem opsLogits_fresh : (opsLogits : List (HloOp τ sig (Elt F))).map HloOp.fresh = (opsLogits : List (HloOp τ sig (Elt F))).map fun _ => (∅ : Finset (DevRef τ sig)) := rfl
theorem opsLogits_sub : (opsLogits : List (HloOp τ sig (Elt F))).Forall fun op => op.bufs ⊆ tcRefs τ sig :=
  ⟨reshape_bufs_sub .., binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub ..⟩

/-- The masked logits (`where`). -/
abbrev opsMasked : List (HloOp τ sig (Elt F)) :=
  [ StableHlo.TRef.unary (.of main_cst_2 : StableHlo.TRef sig ⟨S_, .f32⟩) main_call0.v0 (broadcastInDim S16x1024x10 ![] bcast_S_S16x1024x10),
    StableHlo.TRef.ternary (.of main_v12 : StableHlo.TRef sig ⟨S16x1024x10, .i1⟩) (.of main_v15 : StableHlo.TRef sig ⟨S16x1024x10, .f32⟩) main_call0.v0 main_call0.v1 select ]
/-- The buffers this stage writes. -/
abbrev opsMasked_W : List (Ref sig .tc) := [main_call0.v0.ref, main_call0.v1.ref]
theorem opsMasked_writes : (opsMasked : List (HloOp τ sig (Elt F))).map HloOp.writes = opsMasked_W.map fun r => {Proc.devRef (τ := τ) .tc r} := rfl
theorem opsMasked_fresh : (opsMasked : List (HloOp τ sig (Elt F))).map HloOp.fresh = (opsMasked : List (HloOp τ sig (Elt F))).map fun _ => (∅ : Finset (DevRef τ sig)) := rfl
theorem opsMasked_sub : (opsMasked : List (HloOp τ sig (Elt F))).Forall fun op => op.bufs ⊆ tcRefs τ sig :=
  ⟨unary_bufs_sub .., ternary_bufs_sub ..⟩

/-- The masked softmax. -/
abbrev opsPolicy : List (HloOp τ sig (Elt F)) :=
  [ StableHlo.nullary main_cst_3 (constant S_ .f32 0xFF800000#32),
    StableHlo.binary main_v16 main_cst_3 main_v17 ((fun x v => Host.reduce FloatOps.maximumf x v reducesTo_S16x1024x10_S16x1024_d2 h_S_) : (⟨S16x1024x10, .f32⟩ : BufTy).Contents (Elt F) → (⟨S_, .f32⟩ : BufTy).Contents (Elt F) → (⟨S16x1024, .f32⟩ : BufTy).Contents (Elt F)),
    StableHlo.unary main_v17 main_v18 (broadcastInDim S16x1024x1 ![0, 1] bcast_S16x1024_S16x1024x1_0_1 : (⟨S16x1024, .f32⟩ : BufTy).Contents (Elt F) → (⟨S16x1024x1, .f32⟩ : BufTy).Contents (Elt F)),
    StableHlo.unary main_v18 main_v19 (broadcastInDim S16x1024x10 ![0, 1, 2] bcast_S16x1024x1_S16x1024x10_0_1_2 : (⟨S16x1024x1, .f32⟩ : BufTy).Contents (Elt F) → (⟨S16x1024x10, .f32⟩ : BufTy).Contents (Elt F)),
    StableHlo.binary main_v16 main_v19 main_v20 (subf : (⟨S16x1024x10, .f32⟩ : BufTy).Contents (Elt F) → (⟨S16x1024x10, .f32⟩ : BufTy).Contents (Elt F) → (⟨S16x1024x10, .f32⟩ : BufTy).Contents (Elt F)),
    StableHlo.unary main_v20 main_v21 (Host.exp : (⟨S16x1024x10, .f32⟩ : BufTy).Contents (Elt F) → (⟨S16x1024x10, .f32⟩ : BufTy).Contents (Elt F)),
    StableHlo.unary main_v12 main_v22 (uitofp .f32 : (⟨S16x1024x10, .i1⟩ : BufTy).Contents (Elt F) → (⟨S16x1024x10, .f32⟩ : BufTy).Contents (Elt F)),
    StableHlo.binary main_v21 main_v22 main_v23 (mulf : (⟨S16x1024x10, .f32⟩ : BufTy).Contents (Elt F) → (⟨S16x1024x10, .f32⟩ : BufTy).Contents (Elt F) → (⟨S16x1024x10, .f32⟩ : BufTy).Contents (Elt F)),
    StableHlo.nullary main_cst_4 (constant S_ .f32 0x00000000#32),
    StableHlo.binary main_v23 main_cst_4 main_v24 ((fun x v => Host.reduceAdd x v reducesTo_S16x1024x10_S16x1024_d2 h_S_) : (⟨S16x1024x10, .f32⟩ : BufTy).Contents (Elt F) → (⟨S_, .f32⟩ : BufTy).Contents (Elt F) → (⟨S16x1024, .f32⟩ : BufTy).Contents (Elt F)),
    StableHlo.unary main_v24 main_v25 (broadcastInDim S16x1024x1 ![0, 1] bcast_S16x1024_S16x1024x1_0_1 : (⟨S16x1024, .f32⟩ : BufTy).Contents (Elt F) → (⟨S16x1024x1, .f32⟩ : BufTy).Contents (Elt F)),
    StableHlo.unary main_v25 main_v26 (broadcastInDim S16x1024x10 ![0, 1, 2] bcast_S16x1024x1_S16x1024x10_0_1_2 : (⟨S16x1024x1, .f32⟩ : BufTy).Contents (Elt F) → (⟨S16x1024x10, .f32⟩ : BufTy).Contents (Elt F)),
    StableHlo.binary main_v23 main_v26 main_v27 (Host.divf : (⟨S16x1024x10, .f32⟩ : BufTy).Contents (Elt F) → (⟨S16x1024x10, .f32⟩ : BufTy).Contents (Elt F) → (⟨S16x1024x10, .f32⟩ : BufTy).Contents (Elt F)),
    StableHlo.reshape main_v27 main_v28 (rfl : (.f32 : EltTy) = .f32) shapeCasts_S16x1024x10_S16384x10 ]
/-- The buffers this stage writes. -/
abbrev opsPolicy_W : List (Ref sig .tc) := [main_cst_3, main_v17, main_v18, main_v19, main_v20, main_v21, main_v22, main_v23, main_cst_4, main_v24, main_v25, main_v26, main_v27, main_v28]
theorem opsPolicy_writes : (opsPolicy : List (HloOp τ sig (Elt F))).map HloOp.writes = opsPolicy_W.map fun r => {Proc.devRef (τ := τ) .tc r} := rfl
theorem opsPolicy_fresh : (opsPolicy : List (HloOp τ sig (Elt F))).map HloOp.fresh = (opsPolicy : List (HloOp τ sig (Elt F))).map fun _ => (∅ : Finset (DevRef τ sig)) := rfl
theorem opsPolicy_sub : (opsPolicy : List (HloOp τ sig (Elt F))).Forall fun op => op.bufs ⊆ tcRefs τ sig :=
  ⟨nullary_bufs_sub .., binary_bufs_sub .., unary_bufs_sub .., unary_bufs_sub .., binary_bufs_sub .., unary_bufs_sub .., unary_bufs_sub .., binary_bufs_sub .., nullary_bufs_sub .., binary_bufs_sub .., unary_bufs_sub .., unary_bufs_sub .., binary_bufs_sub .., reshape_bufs_sub ..⟩

/-- The two words of the generator's key. -/
abbrev opsKey : List (HloOp τ sig (Elt F)) :=
  [ StableHlo.nullary main_c (constantI S_ 32 12345#32),
    StableHlo.nullary main_c_5 (constantI S_ 32 32#32),
    StableHlo.binary main_c main_c_5 main_v29 (Host.shrui : (⟨S_, .i32⟩ : BufTy).Contents (Elt F) → (⟨S_, .i32⟩ : BufTy).Contents (Elt F) → (⟨S_, .i32⟩ : BufTy).Contents (Elt F)),
    StableHlo.unary main_v29 main_v30 (id : (⟨S_, .i32⟩ : BufTy).Contents (Elt F) → (⟨S_, .i32⟩ : BufTy).Contents (Elt F)),
    StableHlo.unary main_v30 main_v31 (broadcastInDim S1 ![] bcast_S_S1 : (⟨S_, .i32⟩ : BufTy).Contents (Elt F) → (⟨S1, .i32⟩ : BufTy).Contents (Elt F)),
    StableHlo.nullary main_c_6 (constantI S_ 32 4294967295#32),
    StableHlo.binary main_c main_c_6 main_v32 (andi : (⟨S_, .i32⟩ : BufTy).Contents (Elt F) → (⟨S_, .i32⟩ : BufTy).Contents (Elt F) → (⟨S_, .i32⟩ : BufTy).Contents (Elt F)),
    StableHlo.unary main_v32 main_v33 (id : (⟨S_, .i32⟩ : BufTy).Contents (Elt F) → (⟨S_, .i32⟩ : BufTy).Contents (Elt F)),
    StableHlo.unary main_v33 main_v34 (broadcastInDim S1 ![] bcast_S_S1 : (⟨S_, .i32⟩ : BufTy).Contents (Elt F) → (⟨S1, .i32⟩ : BufTy).Contents (Elt F)),
    StableHlo.binary main_v31 main_v34 main_v35 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)) ]
/-- The buffers this stage writes. -/
abbrev opsKey_W : List (Ref sig .tc) := [main_c, main_c_5, main_v29, main_v30, main_v31, main_c_6, main_v32, main_v33, main_v34, main_v35]
theorem opsKey_writes : (opsKey : List (HloOp τ sig (Elt F))).map HloOp.writes = opsKey_W.map fun r => {Proc.devRef (τ := τ) .tc r} := rfl
theorem opsKey_fresh : (opsKey : List (HloOp τ sig (Elt F))).map HloOp.fresh = (opsKey : List (HloOp τ sig (Elt F))).map fun _ => (∅ : Finset (DevRef τ sig)) := rfl
theorem opsKey_sub : (opsKey : List (HloOp τ sig (Elt F))).Forall fun op => op.bufs ⊆ tcRefs τ sig :=
  ⟨nullary_bufs_sub .., nullary_bufs_sub .., binary_bufs_sub .., unary_bufs_sub .., unary_bufs_sub .., nullary_bufs_sub .., binary_bufs_sub .., unary_bufs_sub .., unary_bufs_sub .., binary_bufs_sub ..⟩

/-- The logarithm of the offset policy. -/
abbrev opsLog : List (HloOp τ sig (Elt F)) :=
  [ StableHlo.nullary main_cst_7 (constant S_ .f32 0x0DA24260#32),
    StableHlo.unary main_cst_7 main_v36 (broadcastInDim S16384x10 ![] bcast_S_S16384x10 : (⟨S_, .f32⟩ : BufTy).Contents (Elt F) → (⟨S16384x10, .f32⟩ : BufTy).Contents (Elt F)),
    StableHlo.binary main_v28 main_v36 main_v37 (addf : (⟨S16384x10, .f32⟩ : BufTy).Contents (Elt F) → (⟨S16384x10, .f32⟩ : BufTy).Contents (Elt F) → (⟨S16384x10, .f32⟩ : BufTy).Contents (Elt F)),
    StableHlo.unary main_v37 main_v38 (Host.log : (⟨S16384x10, .f32⟩ : BufTy).Contents (Elt F) → (⟨S16384x10, .f32⟩ : BufTy).Contents (Elt F)) ]
/-- The buffers this stage writes. -/
abbrev opsLog_W : List (Ref sig .tc) := [main_cst_7, main_v36, main_v37, main_v38]
theorem opsLog_writes : (opsLog : List (HloOp τ sig (Elt F))).map HloOp.writes = opsLog_W.map fun r => {Proc.devRef (τ := τ) .tc r} := rfl
theorem opsLog_fresh : (opsLog : List (HloOp τ sig (Elt F))).map HloOp.fresh = (opsLog : List (HloOp τ sig (Elt F))).map fun _ => (∅ : Finset (DevRef τ sig)) := rfl
theorem opsLog_sub : (opsLog : List (HloOp τ sig (Elt F))).Forall fun op => op.bufs ⊆ tcRefs τ sig :=
  ⟨nullary_bufs_sub .., unary_bufs_sub .., binary_bufs_sub .., unary_bufs_sub ..⟩

/-- The noise: the generator's line over this program's buffers. -/
abbrev opsNoise : List (HloOp τ sig (Elt F)) := (Noise.prog (F := F)).map (Noise.Op.real at_)

/-- The noisy scores. -/
abbrev opsScore : List (HloOp τ sig (Elt F)) :=
  [ StableHlo.binary main_v39 main_v38 main_v40 (addf : (⟨S16384x10, .f32⟩ : BufTy).Contents (Elt F) → (⟨S16384x10, .f32⟩ : BufTy).Contents (Elt F) → (⟨S16384x10, .f32⟩ : BufTy).Contents (Elt F)) ]
/-- The buffers this stage writes. -/
abbrev opsScore_W : List (Ref sig .tc) := [main_v40]
theorem opsScore_writes : (opsScore : List (HloOp τ sig (Elt F))).map HloOp.writes = opsScore_W.map fun r => {Proc.devRef (τ := τ) .tc r} := rfl
theorem opsScore_fresh : (opsScore : List (HloOp τ sig (Elt F))).map HloOp.fresh = (opsScore : List (HloOp τ sig (Elt F))).map fun _ => (∅ : Finset (DevRef τ sig)) := rfl
theorem opsScore_sub : (opsScore : List (HloOp τ sig (Elt F))).Forall fun op => op.bufs ⊆ tcRefs τ sig :=
  binary_bufs_sub ..

/-- The index of the largest score of each row. -/
abbrev opsArgmax : List (HloOp τ sig (Elt F)) :=
  [ StableHlo.TRef.nullary main_call2.v0 (iotaInDim S16384x10 32 1),
    StableHlo.TRef.nullary main_call2.cst (constant S_ .f32 0xFF800000#32),
    StableHlo.TRef.nullary main_call2.c (constantI S_ 32 0#32),
    StableHlo.TRef.quaternary (.of main_v40 : StableHlo.TRef sig ⟨S16384x10, .f32⟩) main_call2.v0 main_call2.cst main_call2.c main_call2.v1_0 (fun x y u v j => (Host.argReduce reducer_argmax_f32_i32 x y u v reducesTo_S16384x10_S16384_d1 h_S_ j).1),
    StableHlo.TRef.quaternary (.of main_v40 : StableHlo.TRef sig ⟨S16384x10, .f32⟩) main_call2.v0 main_call2.cst main_call2.c main_call2.v1_1 (fun x y u v j => (Host.argReduce reducer_argmax_f32_i32 x y u v reducesTo_S16384x10_S16384_d1 h_S_ j).2) ]
/-- The buffers this stage writes. -/
abbrev opsArgmax_W : List (Ref sig .tc) := [main_call2.v0.ref, main_call2.cst.ref, main_call2.c.ref, main_call2.v1_0.ref, main_call2.v1_1.ref]
theorem opsArgmax_writes : (opsArgmax : List (HloOp τ sig (Elt F))).map HloOp.writes = opsArgmax_W.map fun r => {Proc.devRef (τ := τ) .tc r} := rfl
theorem opsArgmax_fresh : (opsArgmax : List (HloOp τ sig (Elt F))).map HloOp.fresh = (opsArgmax : List (HloOp τ sig (Elt F))).map fun _ => (∅ : Finset (DevRef τ sig)) := rfl
theorem opsArgmax_sub : (opsArgmax : List (HloOp τ sig (Elt F))).Forall fun op => op.bufs ⊆ tcRefs τ sig :=
  ⟨nullary_bufs_sub .., nullary_bufs_sub .., nullary_bufs_sub .., quaternary_bufs_sub .., quaternary_bufs_sub ..⟩

/-- The chosen indices as a result and as positions; the keys as rows. -/
abbrev opsIndex : List (HloOp τ sig (Elt F)) :=
  [ StableHlo.reshape main_v41 main_v42 (rfl : (.i32 : EltTy) = .i32) shapeCasts_S16384_S16x1024x1,
    StableHlo.reshape main_v11 main_v43 (rfl : (.f32 : EltTy) = .f32) shapeCasts_S16x1024x10x512_S16384x10x512,
    StableHlo.unary main_v41 main_v44 (broadcastInDim S16384x1x1 ![0] bcast_S16384_S16384x1x1_0 : (⟨S16384, .i32⟩ : BufTy).Contents (Elt F) → (⟨S16384x1x1, .i32⟩ : BufTy).Contents (Elt F)) ]
/-- The buffers this stage writes. -/
abbrev opsIndex_W : List (Ref sig .tc) := [main_v42, main_v43, main_v44]
theorem opsIndex_writes : (opsIndex : List (HloOp τ sig (Elt F))).map HloOp.writes = opsIndex_W.map fun r => {Proc.devRef (τ := τ) .tc r} := rfl
theorem opsIndex_fresh : (opsIndex : List (HloOp τ sig (Elt F))).map HloOp.fresh = (opsIndex : List (HloOp τ sig (Elt F))).map fun _ => (∅ : Finset (DevRef τ sig)) := rfl
theorem opsIndex_sub : (opsIndex : List (HloOp τ sig (Elt F))).Forall fun op => op.bufs ⊆ tcRefs τ sig :=
  ⟨reshape_bufs_sub .., reshape_bufs_sub .., unary_bufs_sub ..⟩

/-- Each row's chosen key (`take_along_axis`). -/
abbrev opsTake : List (HloOp τ sig (Elt F)) :=
  [ StableHlo.TRef.nullary main_call3.c (constantI S_ 32 0#32),
    StableHlo.TRef.unary main_call3.c main_call3.v0 (broadcastInDim S16384x1x1 ![] bcast_S_S16384x1x1),
    StableHlo.TRef.binary (.of main_v44 : StableHlo.TRef sig ⟨S16384x1x1, .i32⟩) main_call3.v0 main_call3.v1 (cmpi .slt),
    StableHlo.TRef.nullary main_call3.c_0 (constantI S_ 32 10#32),
    StableHlo.TRef.unary main_call3.c_0 main_call3.v2 (broadcastInDim S16384x1x1 ![] bcast_S_S16384x1x1),
    StableHlo.TRef.binary (.of main_v44 : StableHlo.TRef sig ⟨S16384x1x1, .i32⟩) main_call3.v2 main_call3.v3 addi,
    StableHlo.TRef.ternary main_call3.v1 main_call3.v3 (.of main_v44 : StableHlo.TRef sig ⟨S16384x1x1, .i32⟩) main_call3.v4 select,
    StableHlo.TRef.nullary main_call3.c_1 (constantI S1 32 9#32),
    StableHlo.TRef.nullary main_call3.c_2 (constantI S_ 32 0#32),
    StableHlo.TRef.unary main_call3.c_2 main_call3.v5 (broadcastInDim S16384x1x1 ![] bcast_S_S16384x1x1),
    StableHlo.TRef.binary main_call3.v4 main_call3.v5 main_call3.v6 (cmpi .sge),
    StableHlo.TRef.unary main_call3.c_1 main_call3.v7 (broadcastInDim S1x1x1 ![2] bcast_S1_S1x1x1_2),
    StableHlo.TRef.unary main_call3.v7 main_call3.v8 (broadcastInDim S16384x1x1 ![0, 1, 2] bcast_S1x1x1_S16384x1x1_0_1_2),
    StableHlo.TRef.binary main_call3.v4 main_call3.v8 main_call3.v9 (cmpi .sle),
    StableHlo.TRef.binary main_call3.v6 main_call3.v9 main_call3.v10 andi,
    StableHlo.TRef.nullary main_call3.c_3 (constantI S_ 1 1#1),
    StableHlo.TRef.binary main_call3.v10 main_call3.c_3 main_call3.v11 (fun x v => Host.reduce IntOp.andi x v reducesTo_S16384x1x1_S16384x1_d2 h_S_),
    StableHlo.TRef.binary (.of main_v43 : StableHlo.TRef sig ⟨S16384x10x512, .f32⟩) main_call3.v4 main_call3.v12 (fun x i => Host.gather gather_S16384x10x512_S16384x1x1_S16384x1x512_2_1_0_0_1_2_11512 x i),
    StableHlo.TRef.unary main_call3.v11 main_call3.v13 (broadcastInDim S16384x1x512 ![0, 1] bcast_S16384x1_S16384x1x512_0_1),
    StableHlo.TRef.nullary main_call3.cst (constant S_ .f32 0x7FC00000#32),
    StableHlo.TRef.unary main_call3.cst main_call3.v14 (broadcastInDim S16384x1x512 ![] bcast_S_S16384x1x512),
    StableHlo.TRef.ternary main_call3.v13 main_call3.v12 main_call3.v14 main_call3.v15 select ]
/-- The buffers this stage writes. -/
abbrev opsTake_W : List (Ref sig .tc) := [main_call3.c.ref, main_call3.v0.ref, main_call3.v1.ref, main_call3.c_0.ref, main_call3.v2.ref, main_call3.v3.ref, main_call3.v4.ref, main_call3.c_1.ref, main_call3.c_2.ref, main_call3.v5.ref, main_call3.v6.ref, main_call3.v7.ref, main_call3.v8.ref, main_call3.v9.ref, main_call3.v10.ref, main_call3.c_3.ref, main_call3.v11.ref, main_call3.v12.ref, main_call3.v13.ref, main_call3.cst.ref, main_call3.v14.ref, main_call3.v15.ref]
theorem opsTake_writes : (opsTake : List (HloOp τ sig (Elt F))).map HloOp.writes = opsTake_W.map fun r => {Proc.devRef (τ := τ) .tc r} := rfl
theorem opsTake_fresh : (opsTake : List (HloOp τ sig (Elt F))).map HloOp.fresh = (opsTake : List (HloOp τ sig (Elt F))).map fun _ => (∅ : Finset (DevRef τ sig)) := rfl
theorem opsTake_sub : (opsTake : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- The first layer: the product and its bias. -/
abbrev opsHidden : List (HloOp τ sig (Elt F)) :=
  [ StableHlo.reshape main_v45 main_v46 (rfl : (.f32 : EltTy) = .f32) shapeCasts_S16384x1x512_S16x1024x512,
    StableHlo.binary main_v46 main_arg9 main_v47 ((fun l r => Host.dotGeneral dot_S16x1024x512_S512x512_S16x1024x512_2_0_01_1_n_n none l r) : (⟨S16x1024x512, .f32⟩ : BufTy).Contents (Elt F) → (⟨S512x512, .f32⟩ : BufTy).Contents (Elt F) → (⟨S16x1024x512, .f32⟩ : BufTy).Contents (Elt F)),
    StableHlo.unary main_arg10 main_v48 (broadcastInDim S1x1x512 ![2] bcast_S512_S1x1x512_2 : (⟨S512, .f32⟩ : BufTy).Contents (Elt F) → (⟨S1x1x512, .f32⟩ : BufTy).Contents (Elt F)),
    StableHlo.unary main_v48 main_v49 (broadcastInDim S16x1024x512 ![0, 1, 2] bcast_S1x1x512_S16x1024x512_0_1_2 : (⟨S1x1x512, .f32⟩ : BufTy).Contents (Elt F) → (⟨S16x1024x512, .f32⟩ : BufTy).Contents (Elt F)) ]
/-- The buffers this stage writes. -/
abbrev opsHidden_W : List (Ref sig .tc) := [main_v46, main_v47, main_v48, main_v49]
theorem opsHidden_writes : (opsHidden : List (HloOp τ sig (Elt F))).map HloOp.writes = opsHidden_W.map fun r => {Proc.devRef (τ := τ) .tc r} := rfl
theorem opsHidden_fresh : (opsHidden : List (HloOp τ sig (Elt F))).map HloOp.fresh = (opsHidden : List (HloOp τ sig (Elt F))).map fun _ => (∅ : Finset (DevRef τ sig)) := rfl
theorem opsHidden_sub : (opsHidden : List (HloOp τ sig (Elt F))).Forall fun op => op.bufs ⊆ tcRefs τ sig :=
  ⟨reshape_bufs_sub .., binary_bufs_sub .., unary_bufs_sub .., unary_bufs_sub ..⟩

/-- The first layer's sum. -/
abbrev opsBias : List (HloOp τ sig (Elt F)) :=
  [ StableHlo.binary main_v47 main_v49 main_v50 (addf : (⟨S16x1024x512, .f32⟩ : BufTy).Contents (Elt F) → (⟨S16x1024x512, .f32⟩ : BufTy).Contents (Elt F) → (⟨S16x1024x512, .f32⟩ : BufTy).Contents (Elt F)) ]
/-- The buffers this stage writes. -/
abbrev opsBias_W : List (Ref sig .tc) := [main_v50]
theorem opsBias_writes : (opsBias : List (HloOp τ sig (Elt F))).map HloOp.writes = opsBias_W.map fun r => {Proc.devRef (τ := τ) .tc r} := rfl
theorem opsBias_fresh : (opsBias : List (HloOp τ sig (Elt F))).map HloOp.fresh = (opsBias : List (HloOp τ sig (Elt F))).map fun _ => (∅ : Finset (DevRef τ sig)) := rfl
theorem opsBias_sub : (opsBias : List (HloOp τ sig (Elt F))).Forall fun op => op.bufs ⊆ tcRefs τ sig :=
  binary_bufs_sub ..

/-- Its positive part. -/
abbrev opsRelu : List (HloOp τ sig (Elt F)) :=
  [ StableHlo.TRef.nullary main_call4.cst (constant S_ .f32 0x00000000#32),
    StableHlo.TRef.unary main_call4.cst main_call4.v0 (broadcastInDim S16x1024x512 ![] bcast_S_S16x1024x512),
    StableHlo.TRef.binary (.of main_v50 : StableHlo.TRef sig ⟨S16x1024x512, .f32⟩) main_call4.v0 main_call4.v1 maximumf ]
/-- The buffers this stage writes. -/
abbrev opsRelu_W : List (Ref sig .tc) := [main_call4.cst.ref, main_call4.v0.ref, main_call4.v1.ref]
theorem opsRelu_writes : (opsRelu : List (HloOp τ sig (Elt F))).map HloOp.writes = opsRelu_W.map fun r => {Proc.devRef (τ := τ) .tc r} := rfl
theorem opsRelu_fresh : (opsRelu : List (HloOp τ sig (Elt F))).map HloOp.fresh = (opsRelu : List (HloOp τ sig (Elt F))).map fun _ => (∅ : Finset (DevRef τ sig)) := rfl
theorem opsRelu_sub : (opsRelu : List (HloOp τ sig (Elt F))).Forall fun op => op.bufs ⊆ tcRefs τ sig :=
  ⟨nullary_bufs_sub .., unary_bufs_sub .., binary_bufs_sub ..⟩

/-- The second layer and the residual sum. -/
abbrev opsOut : List (HloOp τ sig (Elt F)) :=
  [ StableHlo.binary main_v51 main_arg11 main_v52 ((fun l r => Host.dotGeneral dot_S16x1024x512_S512x1024_S16x1024x1024_2_0_01_1_n_n none l r) : (⟨S16x1024x512, .f32⟩ : BufTy).Contents (Elt F) → (⟨S512x1024, .f32⟩ : BufTy).Contents (Elt F) → (⟨S16x1024x1024, .f32⟩ : BufTy).Contents (Elt F)),
    StableHlo.unary main_arg12 main_v53 (broadcastInDim S1x1x1024 ![2] bcast_S1024_S1x1x1024_2 : (⟨S1024, .f32⟩ : BufTy).Contents (Elt F) → (⟨S1x1x1024, .f32⟩ : BufTy).Contents (Elt F)),
    StableHlo.unary main_v53 main_v54 (broadcastInDim S16x1024x1024 ![0, 1, 2] bcast_S1x1x1024_S16x1024x1024_0_1_2 : (⟨S1x1x1024, .f32⟩ : BufTy).Contents (Elt F) → (⟨S16x1024x1024, .f32⟩ : BufTy).Contents (Elt F)),
    StableHlo.binary main_v52 main_v54 main_v55 (addf : (⟨S16x1024x1024, .f32⟩ : BufTy).Contents (Elt F) → (⟨S16x1024x1024, .f32⟩ : BufTy).Contents (Elt F) → (⟨S16x1024x1024, .f32⟩ : BufTy).Contents (Elt F)),
    StableHlo.binary main_arg0 main_v55 main_v56 (addf : (⟨S16x1024x1024, .f32⟩ : BufTy).Contents (Elt F) → (⟨S16x1024x1024, .f32⟩ : BufTy).Contents (Elt F) → (⟨S16x1024x1024, .f32⟩ : BufTy).Contents (Elt F)) ]
/-- The buffers this stage writes. -/
abbrev opsOut_W : List (Ref sig .tc) := [main_v52, main_v53, main_v54, main_v55, main_v56]
theorem opsOut_writes : (opsOut : List (HloOp τ sig (Elt F))).map HloOp.writes = opsOut_W.map fun r => {Proc.devRef (τ := τ) .tc r} := rfl
theorem opsOut_fresh : (opsOut : List (HloOp τ sig (Elt F))).map HloOp.fresh = (opsOut : List (HloOp τ sig (Elt F))).map fun _ => (∅ : Finset (DevRef τ sig)) := rfl
theorem opsOut_sub : (opsOut : List (HloOp τ sig (Elt F))).Forall fun op => op.bufs ⊆ tcRefs τ sig :=
  ⟨binary_bufs_sub .., unary_bufs_sub .., unary_bufs_sub .., binary_bufs_sub .., binary_bufs_sub ..⟩

/-! ## The noise stretch's side conditions -/

/-- The buffers the noise stretch writes. -/
abbrev opsNoise_W : List (Ref sig .tc) := Noise.outs.map fun s => (at_ s).ref
theorem opsNoise_writes : (opsNoise : List (HloOp τ sig (Elt F))).map HloOp.writes = opsNoise_W.map fun r => {Proc.devRef (τ := τ) .tc r} := by
  rw [opsNoise_W, ← Noise.prog_outs (F := F), List.map_map, List.map_map, List.map_map]
  exact List.map_congr_left fun op _ => Noise.writes_real at_ op
theorem fresh_real (op : Noise.Op (Elt F)) : (op.real at_ : HloOp τ sig (Elt F)).fresh = ∅ := by cases op <;> rfl
theorem sub_real (op : Noise.Op (Elt F)) : (op.real at_ : HloOp τ sig (Elt F)).bufs ⊆ tcRefs τ sig := by
  cases op
  · exact nullary_bufs_sub ..
  · exact unary_bufs_sub ..
  · exact binary_bufs_sub ..
  · exact reshape_bufs_sub ..

/-! ## The run -/

/-- The stages before the scores, and those after. -/
abbrev opsFront : List (HloOp τ sig (Elt F)) := opsLogits ++ (opsMasked ++ (opsPolicy ++ (opsKey ++ opsLog)))
@[inherit_doc opsFront] abbrev opsBack : List (HloOp τ sig (Elt F)) :=
  opsScore ++ (opsArgmax ++ (opsIndex ++ (opsTake ++ (opsHidden ++ (opsBias ++ (opsRelu ++ opsOut))))))
/-- The whole line. -/
abbrev ops : List (HloOp τ sig (Elt F)) := opsFront ++ (opsNoise ++ opsBack)
/-- The buffers it writes. -/
abbrev ops_W : List (Ref sig .tc) :=
  (opsLogits_W ++ (opsMasked_W ++ (opsPolicy_W ++ (opsKey_W ++ opsLog_W)))) ++ (opsNoise_W ++
    (opsScore_W ++ (opsArgmax_W ++ (opsIndex_W ++ (opsTake_W ++ (opsHidden_W ++ (opsBias_W ++ (opsRelu_W ++ opsOut_W))))))))

theorem ops_writes : (ops : List (HloOp τ sig (Elt F))).map HloOp.writes = ops_W.map fun r => {Proc.devRef (τ := τ) .tc r} := by
  simp only [ops, opsFront, opsBack, ops_W, List.map_append, opsNoise_writes]
  rfl

theorem ops_sub : (ops : List (HloOp τ sig (Elt F))).Forall fun op => op.bufs ⊆ tcRefs τ sig := by
  have h := @opsLogits_sub F _
  refine List.forall_iff_forall_mem.mpr fun op hop => ?_
  simp only [ops, opsFront, opsBack, List.mem_append] at hop
  rcases hop with (h | h | h | h | h) | h | h | h | h | h | h | h | h | h
  · exact List.forall_iff_forall_mem.mp opsLogits_sub op h
  · exact List.forall_iff_forall_mem.mp opsMasked_sub op h
  · exact List.forall_iff_forall_mem.mp opsPolicy_sub op h
  · exact List.forall_iff_forall_mem.mp opsKey_sub op h
  · exact List.forall_iff_forall_mem.mp opsLog_sub op h
  · obtain ⟨o, _, rfl⟩ := List.mem_map.mp h
    exact sub_real o
  · exact List.forall_iff_forall_mem.mp opsScore_sub op h
  · exact List.forall_iff_forall_mem.mp opsArgmax_sub op h
  · exact List.forall_iff_forall_mem.mp opsIndex_sub op h
  · exact List.forall_iff_forall_mem.mp opsTake_sub op h
  · exact List.forall_iff_forall_mem.mp opsHidden_sub op h
  · exact List.forall_iff_forall_mem.mp opsBias_sub op h
  · exact List.forall_iff_forall_mem.mp opsRelu_sub op h
  · exact List.forall_iff_forall_mem.mp opsOut_sub op h

theorem ops_fresh : ∀ op ∈ (ops : List (HloOp τ sig (Elt F))), op.fresh = ∅ := by
  intro op hop
  simp only [ops, opsFront, opsBack, List.mem_append] at hop
  rcases hop with (h | h | h | h | h) | h | h | h | h | h | h | h | h | h
  · exact List.forall_iff_forall_mem.mp (forall_fresh_of_map opsLogits_fresh) op h
  · exact List.forall_iff_forall_mem.mp (forall_fresh_of_map opsMasked_fresh) op h
  · exact List.forall_iff_forall_mem.mp (forall_fresh_of_map opsPolicy_fresh) op h
  · exact List.forall_iff_forall_mem.mp (forall_fresh_of_map opsKey_fresh) op h
  · exact List.forall_iff_forall_mem.mp (forall_fresh_of_map opsLog_fresh) op h
  · obtain ⟨o, _, rfl⟩ := List.mem_map.mp h
    exact fresh_real o
  · exact List.forall_iff_forall_mem.mp (forall_fresh_of_map opsScore_fresh) op h
  · exact List.forall_iff_forall_mem.mp (forall_fresh_of_map opsArgmax_fresh) op h
  · exact List.forall_iff_forall_mem.mp (forall_fresh_of_map opsIndex_fresh) op h
  · exact List.forall_iff_forall_mem.mp (forall_fresh_of_map opsTake_fresh) op h
  · exact List.forall_iff_forall_mem.mp (forall_fresh_of_map opsHidden_fresh) op h
  · exact List.forall_iff_forall_mem.mp (forall_fresh_of_map opsBias_fresh) op h
  · exact List.forall_iff_forall_mem.mp (forall_fresh_of_map opsRelu_fresh) op h
  · exact List.forall_iff_forall_mem.mp (forall_fresh_of_map opsOut_fresh) op h

/-- The program's effects. -/
abbrev Eff (F : FTy → Type) [FloatOps F] := TpuEff nD τ sig (Elt F) (Pipeline.Sig Λ₀ (Fin 0) fun p => (pcfgs (F := F) p).Adm) .tc

/-- A chain of lines is the line of their concatenation. -/
theorem chain_seqs (ls : List (List (HloOp τ sig (Elt F)))) :
    (Pipeline.chain (ls.map seq) : Prog (Eff F) PUnit) = seq ls.flatten := by
  induction ls with
  | nil => rfl
  | cons l ls ih => rw [List.map_cons, Pipeline.chain_cons, List.flatten_cons, seq_append, ih]

set_option maxHeartbeats 4000000 in
/-- The first window of @main, up to the first layer's bias. -/
theorem part0_eq (d : Dev nD) : main_part0 (F := F) d = (Pipeline.chain
    [ seq opsLogits, seq opsMasked, seq (opsPolicy ++ (opsKey ++ opsLog)), seq opsNoise, seq opsScore, seq opsArgmax, seq opsIndex,
      seq opsTake, seq opsHidden ] : Prog (Eff F) PUnit) := by
  chain_rfl

set_option maxHeartbeats 4000000 in
/-- The second window. -/
theorem part1_eq (d : Dev nD) : main_part1 (F := F) d = (Pipeline.chain [ seq opsBias, seq opsRelu, seq opsOut ] : Prog (Eff F) PUnit) := by
  chain_rfl

theorem main_eq (d : Dev nD) : main (F := F) d = seq ops := by
  have h0 : main_part0 (F := F) d = seq _ := (part0_eq d).trans (chain_seqs
    [ opsLogits, opsMasked, opsPolicy ++ (opsKey ++ opsLog), opsNoise, opsScore, opsArgmax, opsIndex, opsTake, opsHidden ])
  have h1 : main_part1 (F := F) d = seq _ := (part1_eq d).trans (chain_seqs [ opsBias, opsRelu, opsOut ])
  have e : main (F := F) d = (main_part0 d >>= fun _ => main_part1 d) := rfl
  rw [e, h0, h1, ← seq_append]
  simp only [ops, opsFront, opsBack, List.flatten_cons, List.flatten_nil, List.append_nil, List.append_assoc]

theorem scopedRefs_eq : (Finset.univ.filter fun b : Ref sig .tc => b.isScoped) = ∅ := by decide +kernel
theorem scopedSems_eq : (Finset.univ.filter fun sm : SemLoc sig => sm.isScoped .tc) = ∅ := by decide +kernel

/-- Every fair run of the reference ends with every buffer at the fold of the stages' operations over the launch
    contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

/-- A buffer the line does not write keeps its launch contents. -/
theorem kept {b : Ref sig .tc} (h : b ∉ ops_W) (V : Valuation τ sig (Elt F)) :
    after (ops : List (HloOp τ sig (Elt F))) V (Proc.devRef .tc b) = V (Proc.devRef .tc b) :=
  after_of_writes_sub ops V (forall_writes_sub_of_map ops_writes) h

/-- The reference runs, leaves its arguments as they were, and counts no semaphore. -/
theorem frame : Cert.quiescent_ReferenceIdeal := by
  intro m ρ _
  refine (θ_run Cert.ReferenceIdeal.defs _ _).mono (fun r h => ⟨fun c => ?_, sem_eq_zero_of_no_sems (by decide) r.2⟩) (run m ρ)
  exact ⟨(h c _).trans (kept (by decide +kernel) _), (h c _).trans (kept (by decide +kernel) _), (h c _).trans (kept (by decide +kernel) _),
    (h c _).trans (kept (by decide +kernel) _), (h c _).trans (kept (by decide +kernel) _), (h c _).trans (kept (by decide +kernel) _),
    (h c _).trans (kept (by decide +kernel) _), (h c _).trans (kept (by decide +kernel) _), (h c _).trans (kept (by decide +kernel) _),
    (h c _).trans (kept (by decide +kernel) _), (h c _).trans (kept (by decide +kernel) _), (h c _).trans (kept (by decide +kernel) _),
    (h c _).trans (kept (by decide +kernel) _)⟩

end Cert.ReferenceIdeal.Run
-- ==== Proof.RefLogits.lean ====
/-
  The reference's first stages, read at a batch entry: keys, logits, joint masks.
-/
module

public import proofs.«01_k».proof.Proof.RefRun
public import proofs.«01_k».proof.Proof.Args

@[expose] public section

set_option maxRecDepth 16384

noncomputable section

open Idealize.ShloMosaic Idealize.ShloMosaic.TcCoe Idealize.ShloMosaic.StableHlo
open Idealize.SL.Sem

namespace Cert.ReferenceIdeal.Run

open Cert.ReferenceIdeal Cert.ReferenceIdeal.Gen

section
variable (a0 : Vec Ideal S16x1024x1024 .f32) (a1 : Vec Ideal S16x1024x1x4x512 .f32) (a2 : Vec Ideal S16x1024x6x512 .f32)
  (w w' : Vec Ideal S1024x512 .f32) (k k' : Vec Ideal S512x512 .f32)

/-- The moves' actions as one array, the queries, and the keys of the moves and of the switches. -/
abbrev moves : Vec Ideal S16x1024x4x512 .f32 := shapeCast S16x1024x4x512 a1 shapeCasts_S16x1024x1x4x512_S16x1024x4x512
abbrev query : FVec Ideal S16x1024x512 .f32 := Host.dotGeneral (φ₁ := .f32) (φ₂ := .f32) dot_S16x1024x1024_S1024x512_S16x1024x512_2_0_01_1_n_n none a0 w
abbrev keyM : FVec Ideal S16x1024x4x512 .f32 := Host.dotGeneral (φ₁ := .f32) (φ₂ := .f32) dot_S16x1024x4x512_S512x512_S16x1024x4x512_3_0_012_1_n_n none (moves a1) k
abbrev keyS : FVec Ideal S16x1024x6x512 .f32 := Host.dotGeneral (φ₁ := .f32) (φ₂ := .f32) dot_S16x1024x6x512_S512x512_S16x1024x6x512_3_0_012_1_n_n none a2 k'

theorem query_read (p : Fin 16) (q : Fin 1024) (j : Fin 512) :
    query a0 w (ix3 p q j) = Row.lin (fun d => a0 (ix3 p q d)) (fun d j => w (ix2 d j)) j := by
  pointwise [query, keyM, keyS, Row.lin]

theorem keyM_read (p : Fin 16) (q : Fin 1024) (n : Fin 4) (j : Fin 512) :
    keyM a1 k (ix4 p q n j) = Row.lin (fun d => a1 (ix5 p q 0 n d)) (fun d j => k (ix2 d j)) j := by
  pointwise [query, keyM, keyS, Row.lin]

theorem keyS_read (p : Fin 16) (q : Fin 1024) (n : Fin 6) (j : Fin 512) :
    keyS a2 k' (ix4 p q n j) = Row.lin (fun d => a2 (ix4 p q n d)) (fun d j => k' (ix2 d j)) j := by
  pointwise [query, keyM, keyS, Row.lin]

/-- A key array joined from the moves' and the switches', and the logits of ten actions. -/
abbrev keys (x : FVec Ideal S16x1024x4x512 .f32) (y : FVec Ideal S16x1024x6x512 .f32) : FVec Ideal S16x1024x10x512 .f32 :=
  concatenate S16x1024x10x512 2 [⟨S16x1024x4x512, x⟩, ⟨S16x1024x6x512, y⟩] concatenates_S16x1024x4x512_S16x1024x6x512_S16x1024x10x512_d2
@[inherit_doc keys] abbrev logits (qm qs : FVec Ideal S16x1024x512 .f32) (x : FVec Ideal S16x1024x4x512 .f32)
    (y : FVec Ideal S16x1024x6x512 .f32) : FVec Ideal S16x1024x10 .f32 :=
  Host.divf (concatenate S16x1024x10 2
    [⟨S16x1024x4, Host.divf (Host.dotGeneral dot_S16x1024x512_S16x1024x4x512_S16x1024x4_2_3_n_2_01_01 none qm x : FVec Ideal S16x1024x4 .f32)
        (broadcastInDim S16x1024x4 ![] bcast_S_S16x1024x4 (constant S_ .f32 0x41B504F3#32))⟩,
      ⟨S16x1024x6, Host.divf (Host.dotGeneral dot_S16x1024x512_S16x1024x6x512_S16x1024x6_2_3_n_2_01_01 none qs y : FVec Ideal S16x1024x6 .f32)
        (broadcastInDim S16x1024x6 ![] bcast_S_S16x1024x6 (constant S_ .f32 0x41B504F3#32))⟩]
    concatenates_S16x1024x4_S16x1024x6_S16x1024x10_d2) (broadcastInDim S16x1024x10 ![] bcast_S_S16x1024x10 (constant S_ .f32 0x404A62C2#32))

theorem keys_read (x : FVec Ideal S16x1024x4x512 .f32) (y : FVec Ideal S16x1024x6x512 .f32) (p : Fin 16) (q : Fin 1024) (n : Fin 10)
    (j : Fin 512) : keys x y (ix4 p q n j) = Args.pair (fun k => x (ix4 p q k j)) (fun k => y (ix4 p q k j)) n := by
  pointwise [keys, Args.pair]

theorem logits_read (qm qs : FVec Ideal S16x1024x512 .f32) (x : FVec Ideal S16x1024x4x512 .f32) (y : FVec Ideal S16x1024x6x512 .f32)
    (p : Fin 16) (q : Fin 1024) (n : Fin 10) : logits qm qs x y (ix3 p q n)
      = Args.pair (fun k => Row.logit (fun j => qm (ix3 p q j)) (fun j => x (ix4 p q k j)))
          (fun k => Row.logit (fun j => qs (ix3 p q j)) (fun j => y (ix4 p q k j))) n := by
  by_cases h : n.val < 4
  · rw [Args.pair_lt _ _ h]; pointwise [logits, Row.logit]; rw [dif_pos h]
  · rw [Args.pair_ge _ _ h]; pointwise [logits, Row.logit]; rw [dif_neg h]

/-- The joint mask. -/
abbrev mask (x : IVec S16x1024x4 1) (y : IVec S16x1024x6 1) : IVec S16x1024x10 1 :=
  concatenate S16x1024x10 2 [⟨S16x1024x4, x⟩, ⟨S16x1024x6, y⟩] concatenates_S16x1024x4_S16x1024x6_S16x1024x10_d2

theorem mask_read (x : IVec S16x1024x4 1) (y : IVec S16x1024x6 1) (p : Fin 16) (q : Fin 1024) (n : Fin 10) :
    mask x y (ix3 p q n) = Args.pair (fun k => x (ix3 p q k)) (fun k => y (ix3 p q k)) n := by
  pointwise [mask, Args.pair]
end

/-! ## The stage -/

theorem logits_stage (A : Valuation τ sig (Elt Ideal)) :
    after (opsLogits (F := Ideal)) A (Proc.devRef .tc main_v15)
      = logits (query (A (Proc.devRef .tc main_arg0)) (A (Proc.devRef .tc main_arg5)))
          (query (A (Proc.devRef .tc main_arg0)) (A (Proc.devRef .tc main_arg7)))
          (keyM (A (Proc.devRef .tc main_arg1)) (A (Proc.devRef .tc main_arg6)))
          (keyS (A (Proc.devRef .tc main_arg2)) (A (Proc.devRef .tc main_arg8)))
    ∧ after (opsLogits (F := Ideal)) A (Proc.devRef .tc main_v11)
      = keys (keyM (A (Proc.devRef .tc main_arg1)) (A (Proc.devRef .tc main_arg6)))
          (keyS (A (Proc.devRef .tc main_arg2)) (A (Proc.devRef .tc main_arg8)))
    ∧ after (opsLogits (F := Ideal)) A (Proc.devRef .tc main_v12)
      = mask (A (Proc.devRef .tc main_arg3)) (A (Proc.devRef .tc main_arg4))
    ∧ after (opsLogits (F := Ideal)) A (Proc.devRef .tc main_cst_2) = constant (F := Ideal) S_ .f32 0xFF7FFFFF#32 := by
  refine ⟨?_, ?_, ?_, ?_⟩ <;> after_results <;> rfl

end Cert.ReferenceIdeal.Run
-- ==== Proof.RefPolicy.lean ====
/-
  The reference's masked softmax and its noisy scores, read at a batch entry.
-/
module

public import proofs.«01_k».proof.Proof.RefRun
public import proofs.«01_k».proof.Proof.Args

@[expose] public section

set_option maxRecDepth 16384

noncomputable section

open Idealize.ShloMosaic Idealize.ShloMosaic.TcCoe Idealize.ShloMosaic.StableHlo
open Idealize.SL.Sem

namespace Cert.ReferenceIdeal.Run

open Cert.ReferenceIdeal Cert.ReferenceIdeal.Gen

variable (mk : IVec S16x1024x10 1) (l : FVec Ideal S16x1024x10 .f32) (p : Fin 16) (q : Fin 1024) (n : Fin 10)

/-- The masked logits. -/
abbrev maskedArr : FVec Ideal S16x1024x10 .f32 :=
  select mk l (broadcastInDim S16x1024x10 ![] bcast_S_S16x1024x10 (constant S_ .f32 0xFF7FFFFF#32))

theorem masked_read : maskedArr mk l (ix3 p q n)
    = Row.masked (fun n => Args.bit (mk (ix3 p q n))) (fun n => l (ix3 p q n)) n := by
  unfold Row.masked
  simp only [Args.bit_pos]
  pointwise [maskedArr]
  rfl

/-- The weights: exponentials of the distances from the largest masked logit, times the mask. -/
abbrev weightArr (z : FVec Ideal S16x1024x10 .f32) : FVec Ideal S16x1024x10 .f32 :=
  mulf (Host.exp (subf z (broadcastInDim S16x1024x10 ![0, 1, 2] bcast_S16x1024x1_S16x1024x10_0_1_2
    (broadcastInDim S16x1024x1 ![0, 1] bcast_S16x1024_S16x1024x1_0_1
      (Host.reduce FloatOps.maximumf z (constant S_ .f32 0xFF800000#32) reducesTo_S16x1024x10_S16x1024_d2 h_S_))))) (uitofp .f32 mk)

/-- The policy: the weights over their sum. -/
abbrev policyArr (w : FVec Ideal S16x1024x10 .f32) : FVec Ideal S16x1024x10 .f32 :=
  Host.divf w (broadcastInDim S16x1024x10 ![0, 1, 2] bcast_S16x1024x1_S16x1024x10_0_1_2
    (broadcastInDim S16x1024x1 ![0, 1] bcast_S16x1024_S16x1024x1_0_1
      (Host.reduceAdd w (constant S_ .f32 0x00000000#32) reducesTo_S16x1024x10_S16x1024_d2 h_S_)))

theorem weight_read (z : FVec Ideal S16x1024x10 .f32) : weightArr mk z (ix3 p q n)
    = Ideal.exp (z (ix3 p q n) - Row.top (fun n => z (ix3 p q n))) * Args.bit (mk (ix3 p q n)) := by
  pointwise [weightArr, Row.top, Args.bit]
  rfl

theorem policy_read (w : FVec Ideal S16x1024x10 .f32) : policyArr w (ix3 p q n)
    = Ideal.div (w (ix3 p q n)) (∑ a : Fin 10, w (ix3 p q a)) := by
  pointwise [policyArr]

/-- The noisy scores. -/
abbrev scoreArr (pol : FVec Ideal S16x1024x10 .f32) (g : FVec Ideal S16384x10 .f32) : FVec Ideal S16384x10 .f32 :=
  addf g (Host.log (addf (shapeCast S16384x10 pol shapeCasts_S16x1024x10_S16384x10 : FVec Ideal S16384x10 .f32)
    (broadcastInDim S16384x10 ![] bcast_S_S16384x10 (constant S_ .f32 0x0DA24260#32))))

theorem score_read (pol : FVec Ideal S16x1024x10 .f32) (g : FVec Ideal S16384x10 .f32) : scoreArr pol g (ix2 (Args.at_ p q) n)
    = Row.score (fun n => pol (ix3 p q n)) (fun n => g (ix2 (Args.at_ p q) n)) n := by
  have hp : (Args.at_ p q).val / 1024 = p.val := by rw [Args.at_val]; omega
  have hq : (Args.at_ p q).val % 1024 = q.val := by rw [Args.at_val]; omega
  pointwise [scoreArr, Row.score]
  simp only [hp, hq, Fin.eta]
  exact add_comm _ _

theorem masked_stage (A : Valuation τ sig (Elt Ideal)) (h : A (Proc.devRef .tc main_cst_2) = constant (F := Ideal) S_ .f32 0xFF7FFFFF#32) :
    after (opsMasked (F := Ideal)) A (Proc.devRef .tc main_v16)
      = maskedArr (A (Proc.devRef .tc main_v12)) (A (Proc.devRef .tc main_v15)) := by
  unfold maskedArr
  rw [← h]
  after_results <;> rfl

theorem policy_stage (A : Valuation τ sig (Elt Ideal)) :
    after (opsPolicy (F := Ideal)) A (Proc.devRef .tc main_v27)
      = policyArr (weightArr (A (Proc.devRef .tc main_v12)) (A (Proc.devRef .tc main_v16)))
    ∧ after (opsPolicy (F := Ideal)) A (Proc.devRef .tc main_v28)
      = shapeCast S16384x10 (policyArr (weightArr (A (Proc.devRef .tc main_v12)) (A (Proc.devRef .tc main_v16)))) shapeCasts_S16x1024x10_S16384x10 := by
  refine ⟨?_, ?_⟩ <;> after_results <;> rfl

theorem key_stage (A : Valuation τ sig (Elt Ideal)) :
    after (opsKey (F := Ideal)) A (Proc.devRef .tc main_v35) = Noise.seed (F := Ideal) := by
  after_results <;> rfl

theorem log_stage (A : Valuation τ sig (Elt Ideal)) :
    after (opsLog (F := Ideal)) A (Proc.devRef .tc main_v38)
      = Host.log (addf (A (Proc.devRef .tc main_v28)) (broadcastInDim S16384x10 ![] bcast_S_S16384x10 (constant (F := Ideal) S_ .f32 0x0DA24260#32))) := by
  after_results <;> rfl

theorem score_stage (A : Valuation τ sig (Elt Ideal)) :
    after (opsScore (F := Ideal)) A (Proc.devRef .tc main_v40)
      = addf (F := Ideal) (φ := .f32) (A (Proc.devRef .tc main_v39)) (A (Proc.devRef .tc main_v38)) := by
  after_results <;> rfl

end Cert.ReferenceIdeal.Run
-- ==== Proof.RefArgmax.lean ====
/-
  The reference's arg-max: a left fold of a pair reducer over the ten scores of a row, shown to be the row's
  `pick`, the first index of the largest score.
-/
module

public import proofs.«01_k».proof.Proof.RefRun
public import proofs.«01_k».proof.Proof.Args
public import Idealize.ShloMosaic.PureOps.Reduce
public import Idealize.ShloMosaic.PureOps.Ideal.Laws

@[expose] public section

set_option maxRecDepth 16384

noncomputable section

open Idealize.ShloMosaic Idealize.ShloMosaic.TcCoe Idealize.ShloMosaic.StableHlo
open Idealize.SL.Sem

namespace Cert.ReferenceIdeal.Run

open Cert.ReferenceIdeal Cert.ReferenceIdeal.Gen

/-- A (score, index) pair of the reducer. -/
abbrev Scored : Type := EReal × BitVec 32

/-- `a` is no better than `b`: a smaller score, or the same score no earlier. -/
def below (a b : Scored) : Prop := a.1 < b.1 ∨ (a.1 = b.1 ∧ b.2.toInt ≤ a.2.toInt)

theorem below_refl (a : Scored) : below a a := Or.inr ⟨rfl, le_rfl⟩

theorem below_trans {a b c : Scored} (h : below a b) (h' : below b c) : below a c := by
  rcases h with h | ⟨h, k⟩ <;> rcases h' with h' | ⟨h', k'⟩
  · exact Or.inl (h.trans h')
  · exact Or.inl (h' ▸ h)
  · exact Or.inl (h ▸ h')
  · exact Or.inr ⟨h.trans h', k'.trans k⟩

theorem one_or : ∀ b : BitVec 1, 1#1 ||| b = 1#1 := by decide

/-- The reducer keeps one of its two pairs, and the other is no better. -/
theorem reducer_keeps (a b : Scored) :
    (reducer_argmax_f32_i32 (F := Ideal) a b = a ∧ below b a) ∨ (reducer_argmax_f32_i32 (F := Ideal) a b = b ∧ below a b) := by
  obtain ⟨x, i⟩ := a
  obtain ⟨y, j⟩ := b
  rcases lt_trichotomy x y with h | h | h
  · refine Or.inr ⟨?_, Or.inl h⟩
    simp [reducer_argmax_f32_i32, Ideal.cmpf_def, Ideal.cmp, Scalar.select, IntOp.ori, IntOp.andi, not_lt.mpr h.le, h.ne]
  · subst h
    by_cases hij : i.toInt < j.toInt
    · refine Or.inl ⟨?_, Or.inr ⟨rfl, hij.le⟩⟩
      simp [reducer_argmax_f32_i32, Ideal.cmpf_def, Ideal.cmp, Scalar.select, IntOp.ori, IntOp.andi, IntOp.cmpi, BitVec.slt, hij]
    · refine Or.inr ⟨?_, Or.inr ⟨rfl, not_lt.mp hij⟩⟩
      simp [reducer_argmax_f32_i32, Ideal.cmpf_def, Ideal.cmp, Scalar.select, IntOp.ori, IntOp.andi, IntOp.cmpi, BitVec.slt, hij]
  · refine Or.inl ⟨?_, Or.inl h⟩
    simp [reducer_argmax_f32_i32, Ideal.cmpf_def, Ideal.cmp, Scalar.select, IntOp.ori, IntOp.andi, h, one_or]

/-- Its fold over a list ends at a member of the list (or the start) that nothing there is better than. -/
theorem fold_keeps (L : List Scored) (i : Scored) :
    (L.foldl (reducer_argmax_f32_i32 (F := Ideal)) i = i ∨ L.foldl (reducer_argmax_f32_i32 (F := Ideal)) i ∈ L)
    ∧ below i (L.foldl (reducer_argmax_f32_i32 (F := Ideal)) i)
    ∧ ∀ x ∈ L, below x (L.foldl (reducer_argmax_f32_i32 (F := Ideal)) i) := by
  induction L generalizing i with
  | nil => exact ⟨Or.inl rfl, below_refl i, fun x hx => absurd hx List.not_mem_nil⟩
  | cons b L ih =>
    obtain ⟨hm, hi, hL⟩ := ih (reducer_argmax_f32_i32 (F := Ideal) i b)
    rw [List.foldl_cons]
    rcases reducer_keeps i b with ⟨he, hb⟩ | ⟨he, hb⟩ <;> rw [he] at hm hi hL ⊢
    · refine ⟨hm.imp id (List.mem_cons_of_mem _), hi, fun x hx => ?_⟩
      rcases List.mem_cons.mp hx with rfl | hx
      · exact below_trans hb hi
      · exact hL x hx
    · refine ⟨Or.inr ?_, below_trans hb hi, fun x hx => ?_⟩
      · rcases hm with hm | hm
        · rw [hm]; exact List.mem_cons_self
        · exact List.mem_cons_of_mem _ hm
      · rcases List.mem_cons.mp hx with rfl | hx
        · exact hi
        · exact hL x hx

theorem index_toInt (n : Fin 10) : (BitVec.ofNat 32 n.val).toInt = n.val := by
  revert n; decide

/-- Over a list holding exactly the ten (score, index) pairs of a row, from (−∞, 0), the fold's index is the pick. -/
theorem fold_pick (z : Fin 10 → EReal) (L : List Scored) (hL : ∀ n : Fin 10, (z n, BitVec.ofNat 32 n.val) ∈ L)
    (hL' : ∀ x ∈ L, ∃ n : Fin 10, x = (z n, BitVec.ofNat 32 n.val)) (i : Scored) (hi : i = (⊥, 0#32)) :
    (L.foldl (reducer_argmax_f32_i32 (F := Ideal)) i).2 = BitVec.ofNat 32 (Row.pick z).val := by
  subst hi
  obtain ⟨hm, -, hb⟩ := fold_keeps L (⊥, 0#32)
  have key : ∀ n : Fin 10, L.foldl (reducer_argmax_f32_i32 (F := Ideal)) (⊥, 0#32) = (z n, BitVec.ofNat 32 n.val)
      → n = Row.pick z := fun n hn => by
    rw [hn] at hb
    have hle : ∀ a, z a ≤ z n := fun a => by
      rcases hb _ (hL a) with h | ⟨h, -⟩
      · exact le_of_lt h
      · exact le_of_eq h
    have htop : z n = Row.top z := by
      obtain ⟨a, ha⟩ := Row.exists_top z
      exact le_antisymm (Row.le_top z n) (ha ▸ hle a)
    refine Row.pick_unique z n htop fun a ha h => ?_
    rcases hb _ (hL a) with h' | ⟨-, h'⟩
    · exact absurd (h.trans htop.symm) (ne_of_lt h')
    · rw [index_toInt, index_toInt] at h'
      have : a.val < n.val := ha
      omega
  rcases hm with hm | hm
  · have h0 : z 0 = ⊥ := by
      have := hb _ (hL 0)
      rw [hm] at this
      rcases this with h | ⟨h, -⟩
      · exact absurd h not_lt_bot
      · exact h
    rw [hm, ← key 0 (by rw [hm, h0]; rfl)]
    rfl
  · obtain ⟨n, hn⟩ := hL' _ hm
    rw [hn, key n hn]

/-- The index array the arg-max writes. -/
abbrev argmaxArr (x : FVec Ideal S16384x10 .f32) : IVec S16384 32 := fun j =>
  (Host.argReduce (F := Ideal) reducer_argmax_f32_i32 x (iotaInDim S16384x10 32 1) (constant (F := Ideal) S_ .f32 0xFF800000#32) (constantI S_ 32 0#32)
    reducesTo_S16384x10_S16384_d1 h_S_ j).2

theorem drop_row (R : Fin 16384) (n : Fin 10) : reducesTo_S16384x10_S16384_d1.drop (ix2 R n) = ix1 R := by
  funext a
  obtain rfl : a = 0 := Subsingleton.elim _ _
  exact Fin.ext (Shape.ReducesTo.drop_apply_val _ _ _)

/-- Read at a row, it is the pick of that row's scores. -/
theorem argmax_read (x : FVec Ideal S16384x10 .f32) (R : Fin 16384) :
    argmaxArr x (ix1 R) = BitVec.ofNat 32 (Row.pick fun n => x (ix2 R n)).val := by
  unfold argmaxArr
  rw [Ideal.argReduce_eq_reduce2, Host.reduce2_eq_foldl_fiber]
  refine fold_pick (fun n => x (ix2 R n)) _ (fun n => ?_) (fun y hy => ?_) _ ?_
  · refine List.mem_map.mpr ⟨S16384x10.rowMajor (ix2 R n), List.mem_filter.mpr ⟨List.mem_finRange _, ?_⟩, ?_⟩
    · rw [Equiv.symm_apply_apply, drop_row]; exact decide_eq_true rfl
    · rw [Equiv.symm_apply_apply]; rfl
  · obtain ⟨k, hk, rfl⟩ := List.mem_map.mp hy
    have hd := of_decide_eq_true (List.mem_filter.mp hk).2
    generalize S16384x10.rowMajor.symm k = i at hd ⊢
    obtain ⟨R', n, rfl⟩ : ∃ (R' : Fin 16384) (n : Fin 10), i = ix2 R' n := ⟨_, _, ValueIdx.eq_ix2 i⟩
    rw [drop_row] at hd
    obtain rfl : R' = R := congrFun hd 0
    exact ⟨n, rfl⟩
  · exact Prod.ext Row.ofBits_neg_inf rfl

theorem argmax_stage (A : Valuation τ sig (Elt Ideal)) :
    after (opsArgmax (F := Ideal)) A (Proc.devRef .tc main_v41) = argmaxArr (A (Proc.devRef .tc main_v40)) := by
  after_results <;> rfl

end Cert.ReferenceIdeal.Run
-- ==== Proof.RefTake.lean ====
/-
  The reference's `take_along_axis`: at an index word of a move or switch, the key row it names.
-/
module

public import proofs.«01_k».proof.Proof.RefRun
public import proofs.«01_k».proof.Proof.Args

@[expose] public section

set_option maxRecDepth 16384

noncomputable section

open Idealize.ShloMosaic Idealize.ShloMosaic.TcCoe Idealize.ShloMosaic.StableHlo
open Idealize.SL.Sem

namespace Cert.ReferenceIdeal.Run

open Cert.ReferenceIdeal Cert.ReferenceIdeal.Gen

/-- The gather's dimension numbers: one batch axis, one start index per row, whole rows of 512 kept. -/
abbrev takeD : GatherDims S16384x10x512 S16384x1x1 S16384x1x512 :=
  gather_S16384x10x512_S16384x1x1_S16384x1x512_2_1_0_0_1_2_11512

/-- The gather read at an entry: the start index, read signed and clamped into the ten rows. -/
theorem gather_read (x : FVec Ideal S16384x10x512 .f32) (i : IVec S16384x1x1 32) (R : Fin 16384) (j : Fin 512) :
    Host.gather takeD x i (ix3 R 0 j) = x (ix3 R ⟨min (i (ix3 R 0 0)).toInt.toNat 9, by omega⟩ j) := by
  unfold Host.gather
  congr 1
  funext a
  refine Fin.ext ?_
  show takeD.start (ix3 R 0 j) i a + takeD.batchCoord (ix3 R 0 j) a + takeD.offCoord (ix3 R 0 j) a = _
  have h3 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h3 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ takeD.operandBatchingDims from List.mem_singleton.mpr rfl)]
    rfl
  · rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ takeD.startIndexMap from List.mem_singleton.mpr rfl)]
    have hsi : takeD.siIdx (ix3 R 0 j) ⟨List.idxOf (1 : Fin 3) takeD.startIndexMap,
        List.idxOf_lt_length_iff.2 (List.mem_singleton.mpr rfl)⟩ = ix3 R 0 0 := by
      funext b; refine Fin.ext ?_
      match b with
      | ⟨0, _⟩ => rfl
      | ⟨1, _⟩ => rfl
      | ⟨2, _⟩ => rfl
    rw [hsi]
    rfl
  · rw [GatherDims.batchCoord_eq_zero _ _ _ (by decide)]
    unfold GatherDims.start GatherDims.offCoord
    rw [dif_neg (by decide), dif_pos (by decide)]
    simp only [Nat.zero_add, Nat.add_zero]
    rfl

/-- The index the gather is given: a negative one counts from the end. -/
abbrev wrapped (i : IVec S16384x1x1 32) : IVec S16384x1x1 32 :=
  select (cmpi .slt i (broadcastInDim S16384x1x1 ![] bcast_S_S16384x1x1 (constantI S_ 32 0#32)))
    (addi i (broadcastInDim S16384x1x1 ![] bcast_S_S16384x1x1 (constantI S_ 32 10#32))) i

/-- Whether that index is one of the ten rows. -/
abbrev inRange (i : IVec S16384x1x1 32) : IVec S16384x1 1 :=
  Host.reduce IntOp.andi
    (andi (cmpi .sge i (broadcastInDim S16384x1x1 ![] bcast_S_S16384x1x1 (constantI S_ 32 0#32)))
      (cmpi .sle i (broadcastInDim S16384x1x1 ![0, 1, 2] bcast_S1x1x1_S16384x1x1_0_1_2
        (broadcastInDim S1x1x1 ![2] bcast_S1_S1x1x1_2 (constantI S1 32 9#32)))))
    (constantI S_ 1 1#1) reducesTo_S16384x1x1_S16384x1_d2 h_S_

/-- What the call returns: the gathered row, or a fill where the index is out of range. -/
abbrev takeArr (x : FVec Ideal S16384x10x512 .f32) (i : IVec S16384x1x1 32) : FVec Ideal S16384x1x512 .f32 :=
  select (broadcastInDim S16384x1x512 ![0, 1] bcast_S16384x1_S16384x1x512_0_1 (inRange (wrapped i)))
    (Host.gather takeD x (wrapped i))
    (broadcastInDim S16384x1x512 ![] bcast_S_S16384x1x512 (constant (F := Ideal) S_ .f32 0x7FC00000#32))

theorem word_facts (n : Fin 10) :
    Scalar.select (IntOp.cmpi .slt (BitVec.ofNat 32 n.val) 0#32) (IntOp.addi (BitVec.ofNat 32 n.val) 10#32) (BitVec.ofNat 32 n.val) = BitVec.ofNat 32 n.val
    ∧ IntOp.andi (IntOp.cmpi .sge (BitVec.ofNat 32 n.val) 0#32) (IntOp.cmpi .sle (BitVec.ofNat 32 n.val) 9#32) = 1#1
    ∧ min (BitVec.ofNat 32 n.val).toInt.toNat 9 = n.val := by
  revert n; decide

theorem wrapped_read (i : IVec S16384x1x1 32) (R : Fin 16384) (n : Fin 10) (h : i (ix3 R 0 0) = BitVec.ofNat 32 n.val) :
    wrapped i (ix3 R 0 0) = BitVec.ofNat 32 n.val := by
  have := (word_facts n).1
  rw [← h] at this ⊢
  exact this

theorem inRange_read (i : IVec S16384x1x1 32) (R : Fin 16384) (n : Fin 10) (h : i (ix3 R 0 0) = BitVec.ofNat 32 n.val) :
    inRange i (ix2 R 0) = 1#1 := by
  have := (word_facts n).2.1
  rw [← h] at this
  pointwise [inRange]
  rw [Finset.univ_unique, Finset.fold_singleton]
  show IntOp.andi (IntOp.andi (IntOp.cmpi .sge (i (ix3 R 0 0)) 0#32) (IntOp.cmpi .sle (i (ix3 R 0 0)) 9#32)) 1#1 = 1#1
  rw [this]
  rfl

/-- Where the row's flag is set, the flagged choice is the gathered entry. -/
theorem flagged (m : IVec S16384x1 1) (g f : FVec Ideal S16384x1x512 .f32) (R : Fin 16384) (j : Fin 512) (h : m (ix2 R 0) = 1#1) :
    select (broadcastInDim S16384x1x512 ![0, 1] bcast_S16384x1_S16384x1x512_0_1 m) g f (ix3 R 0 j) = g (ix3 R 0 j) := by
  pointwise []
  rw [h]
  rfl

/-- At an index word of one of the ten rows, the call's result is that row. -/
theorem take_read (x : FVec Ideal S16384x10x512 .f32) (i : IVec S16384x1x1 32) (R : Fin 16384) (j : Fin 512) (n : Fin 10)
    (h : i (ix3 R 0 0) = BitVec.ofNat 32 n.val) : takeArr x i (ix3 R 0 j) = x (ix3 R n j) := by
  have hw := wrapped_read i R n h
  have e : (⟨min (wrapped i (ix3 R 0 0)).toInt.toNat 9, by omega⟩ : Fin 10) = n := by
    refine Fin.ext ?_
    show min (wrapped i (ix3 R 0 0)).toInt.toNat 9 = n.val
    rw [hw]; exact (word_facts n).2.2
  have hg := gather_read x (wrapped i) R j
  rw [e] at hg
  have hr := inRange_read (wrapped i) R n hw
  rw [← hg]
  exact flagged _ _ _ R j hr

theorem take_stage (A : Valuation τ sig (Elt Ideal)) :
    after (opsTake (F := Ideal)) A (Proc.devRef .tc main_v45)
      = takeArr (A (Proc.devRef .tc main_v43)) (A (Proc.devRef .tc main_v44)) := by
  have e43 (x : main_v43.ty.Contents (Elt Ideal)) : (.of main_v43 : StableHlo.TRef sig ⟨S16384x10x512, .f32⟩).ofBuf x = x := rfl
  have e44 (x : main_v44.ty.Contents (Elt Ideal)) : (.of main_v44 : StableHlo.TRef sig ⟨S16384x1x1, .i32⟩).ofBuf x = x := rfl
  have e45 (x : FVec Ideal S16384x1x512 .f32) : main_call3.v15.toBuf (Val := Elt Ideal) x = x := rfl
  after_results
  simp only [TRef.ofBuf_toBuf, e43, e44, e45]

end Cert.ReferenceIdeal.Run
-- ==== Proof.RefState.lean ====
/-
  The reference's last stages, read at a batch entry: the chosen index as a result, the rows the choice reads, and
  the two layers that make the new state.
-/
module

public import proofs.«01_k».proof.Proof.RefRun
public import proofs.«01_k».proof.Proof.Args

@[expose] public section

set_option maxRecDepth 16384

noncomputable section

open Idealize.ShloMosaic Idealize.ShloMosaic.TcCoe Idealize.ShloMosaic.StableHlo
open Idealize.SL.Sem

namespace Cert.ReferenceIdeal.Run

open Cert.ReferenceIdeal Cert.ReferenceIdeal.Gen

section
variable (p : Fin 16) (q : Fin 1024)

/-- The index array as the result, the keys as rows, and the index array as positions. -/
abbrev indexOut (i : IVec S16384 32) : IVec S16x1024x1 32 := shapeCast S16x1024x1 i shapeCasts_S16384_S16x1024x1
@[inherit_doc indexOut] abbrev keyRows (k : FVec Ideal S16x1024x10x512 .f32) : FVec Ideal S16384x10x512 .f32 :=
  shapeCast S16384x10x512 k shapeCasts_S16x1024x10x512_S16384x10x512
@[inherit_doc indexOut] abbrev positions (i : IVec S16384 32) : IVec S16384x1x1 32 :=
  broadcastInDim S16384x1x1 ![0] bcast_S16384_S16384x1x1_0 i

theorem indexOut_read (i : IVec S16384 32) : indexOut i (ix3 p q 0) = i (ix1 (Args.at_ p q)) :=
  Idealize.ShloMosaic.shapeCast_apply i _ _ _ (by
    rw [Shape.rowMajor_val_one, Shape.rowMajor_val_three]
    show (Args.at_ p q).val = (p.val * 1024 + q.val) * 1 + 0
    rw [Args.at_val]; omega)

theorem keyRows_read (k : FVec Ideal S16x1024x10x512 .f32) (n : Fin 10) (j : Fin 512) :
    keyRows k (ix3 (Args.at_ p q) n j) = k (ix4 p q n j) :=
  Idealize.ShloMosaic.shapeCast_apply k _ _ _ (by
    rw [Shape.rowMajor_val_four, Shape.rowMajor_val_three]
    show ((p.val * 1024 + q.val) * 10 + n.val) * 512 + j.val = ((Args.at_ p q).val * 10 + n.val) * 512 + j.val
    rw [Args.at_val]; omega)

theorem positions_read (i : IVec S16384 32) (R : Fin 16384) : positions i (ix3 R 0 0) = i (ix1 R) := by
  pointwise [positions]

/-- The chosen keys, per batch entry. -/
abbrev chosen (x : FVec Ideal S16384x1x512 .f32) : FVec Ideal S16x1024x512 .f32 := shapeCast S16x1024x512 x shapeCasts_S16384x1x512_S16x1024x512

theorem chosen_read (x : FVec Ideal S16384x1x512 .f32) (j : Fin 512) : chosen x (ix3 p q j) = x (ix3 (Args.at_ p q) 0 j) :=
  Idealize.ShloMosaic.shapeCast_apply x _ _ _ (by
    rw [Shape.rowMajor_val_three, Shape.rowMajor_val_three]
    show ((Args.at_ p q).val * 1 + 0) * 512 + j.val = (p.val * 1024 + q.val) * 512 + j.val
    rw [Args.at_val]; omega)

/-- The first layer's product and its bias over the batch. -/
abbrev productOf (x : FVec Ideal S16384x1x512 .f32) (w : FVec Ideal S512x512 .f32) : FVec Ideal S16x1024x512 .f32 :=
  Host.dotGeneral (φ₁ := .f32) (φ₂ := .f32) dot_S16x1024x512_S512x512_S16x1024x512_2_0_01_1_n_n none (chosen x) w
@[inherit_doc productOf] abbrev biasOf (b : FVec Ideal S512 .f32) : FVec Ideal S16x1024x512 .f32 :=
  broadcastInDim S16x1024x512 ![0, 1, 2] bcast_S1x1x512_S16x1024x512_0_1_2 (broadcastInDim S1x1x512 ![2] bcast_S512_S1x1x512_2 b)

/-- The first layer. -/
abbrev hiddenArr (x : FVec Ideal S16384x1x512 .f32) (w : FVec Ideal S512x512 .f32) (b : FVec Ideal S512 .f32) : FVec Ideal S16x1024x512 .f32 :=
  maximumf (addf (productOf x w) (biasOf b)) (broadcastInDim S16x1024x512 ![] bcast_S_S16x1024x512 (constant S_ .f32 0x00000000#32))

theorem product_read (x : FVec Ideal S16384x1x512 .f32) (w : FVec Ideal S512x512 .f32) (k : Fin 512) :
    productOf x w (ix3 p q k) = Row.lin (fun j => x (ix3 (Args.at_ p q) 0 j)) (fun j k => w (ix2 j k)) k := by
  unfold Row.lin
  simp only [← chosen_read]
  unfold productOf
  generalize chosen x = y
  pointwise []

theorem hidden_read (x : FVec Ideal S16384x1x512 .f32) (w : FVec Ideal S512x512 .f32) (b : FVec Ideal S512 .f32) (k : Fin 512) :
    hiddenArr x w b (ix3 p q k) = Row.hid (fun j => x (ix3 (Args.at_ p q) 0 j)) (fun j k => w (ix2 j k)) (fun k => b (ix1 k)) k := by
  unfold Row.hid
  rw [← product_read]
  unfold hiddenArr
  generalize productOf x w = y
  pointwise [biasOf]
  try rfl

/-- The new state. -/
abbrev outArr (a0 : FVec Ideal S16x1024x1024 .f32) (h : FVec Ideal S16x1024x512 .f32) (w : FVec Ideal S512x1024 .f32)
    (b : FVec Ideal S1024 .f32) : FVec Ideal S16x1024x1024 .f32 :=
  addf a0 (addf (Host.dotGeneral (φ₁ := .f32) (φ₂ := .f32) dot_S16x1024x512_S512x1024_S16x1024x1024_2_0_01_1_n_n none h w)
    (broadcastInDim S16x1024x1024 ![0, 1, 2] bcast_S1x1x1024_S16x1024x1024_0_1_2 (broadcastInDim S1x1x1024 ![2] bcast_S1024_S1x1x1024_2 b)))

theorem out_read (a0 : FVec Ideal S16x1024x1024 .f32) (h : FVec Ideal S16x1024x512 .f32) (w : FVec Ideal S512x1024 .f32)
    (b : FVec Ideal S1024 .f32) (d : Fin 1024) : outArr a0 h w b (ix3 p q d)
      = Row.out (fun d => a0 (ix3 p q d)) (fun k => h (ix3 p q k)) (fun k d => w (ix2 k d)) (fun d => b (ix1 d)) d := by
  pointwise [outArr, Row.out, Row.lin]
end

/-! ## The stages -/

theorem index_stage (A : Valuation τ sig (Elt Ideal)) :
    after (opsIndex (F := Ideal)) A (Proc.devRef .tc main_v42) = indexOut (A (Proc.devRef .tc main_v41))
    ∧ after (opsIndex (F := Ideal)) A (Proc.devRef .tc main_v43) = keyRows (A (Proc.devRef .tc main_v11))
    ∧ after (opsIndex (F := Ideal)) A (Proc.devRef .tc main_v44) = positions (A (Proc.devRef .tc main_v41)) := by
  refine ⟨?_, ?_, ?_⟩ <;> after_results <;> rfl

theorem hidden_stage (A : Valuation τ sig (Elt Ideal)) :
    after (opsHidden (F := Ideal)) A (Proc.devRef .tc main_v47) = productOf (A (Proc.devRef .tc main_v45)) (A (Proc.devRef .tc main_arg9))
    ∧ after (opsHidden (F := Ideal)) A (Proc.devRef .tc main_v49) = biasOf (A (Proc.devRef .tc main_arg10)) := by
  refine ⟨?_, ?_⟩ <;> after_results <;> rfl

theorem bias_stage (A : Valuation τ sig (Elt Ideal)) :
    after (opsBias (F := Ideal)) A (Proc.devRef .tc main_v50)
      = addf (F := Ideal) (φ := .f32) (A (Proc.devRef .tc main_v47)) (A (Proc.devRef .tc main_v49)) := by
  after_results <;> rfl

theorem relu_stage (A : Valuation τ sig (Elt Ideal)) :
    after (opsRelu (F := Ideal)) A (Proc.devRef .tc main_v51)
      = maximumf (F := Ideal) (φ := .f32) (A (Proc.devRef .tc main_v50))
          (broadcastInDim S16x1024x512 ![] bcast_S_S16x1024x512 (constant S_ .f32 0x00000000#32)) := by
  after_results <;> rfl

theorem out_stage (A : Valuation τ sig (Elt Ideal)) :
    after (opsOut (F := Ideal)) A (Proc.devRef .tc main_v56)
      = outArr (A (Proc.devRef .tc main_arg0)) (A (Proc.devRef .tc main_v51)) (A (Proc.devRef .tc main_arg11)) (A (Proc.devRef .tc main_arg12)) := by
  after_results <;> rfl

end Cert.ReferenceIdeal.Run
-- ==== Proof.RefData.lean ====
/-
  The reference's arrays, over any arguments and noise, are the four results of each batch entry's data.
-/
module

public import proofs.«01_k».proof.Proof.RefLogits
public import proofs.«01_k».proof.Proof.RefPolicy
public import proofs.«01_k».proof.Proof.RefArgmax
public import proofs.«01_k».proof.Proof.RefTake
public import proofs.«01_k».proof.Proof.RefState

@[expose] public section

set_option maxRecDepth 16384

noncomputable section

open Idealize.ShloMosaic Idealize.ShloMosaic.TcCoe Idealize.ShloMosaic.StableHlo
open Idealize.SL.Sem

namespace Cert.ReferenceIdeal.Run

open Cert.ReferenceIdeal Cert.ReferenceIdeal.Gen

variable (a0 : FVec Ideal S16x1024x1024 .f32) (a1 : FVec Ideal S16x1024x1x4x512 .f32) (a2 : FVec Ideal S16x1024x6x512 .f32)
  (a3 : IVec S16x1024x4 1) (a4 : IVec S16x1024x6 1) (a5 : FVec Ideal S1024x512 .f32) (a6 : FVec Ideal S512x512 .f32)
  (a7 : FVec Ideal S1024x512 .f32) (a8 a9 : FVec Ideal S512x512 .f32) (a10 : FVec Ideal S512 .f32) (a11 : FVec Ideal S512x1024 .f32)
  (a12 : FVec Ideal S1024 .f32) (g : FVec Ideal S16384x10 .f32) (p : Fin 16) (q : Fin 1024)

/-- The batch entry's data. -/
abbrev entry : Row.Data := Args.data a0 a1 a2 a3 a4 a5 a6 a7 a8 a9 a10 a11 a12 g p q

/-- The arrays of the logits, the keys, the policy, the scores, the chosen indices, the chosen keys and the new state. -/
def logitsOf : FVec Ideal S16x1024x10 .f32 := logits (query a0 a5) (query a0 a7) (keyM a1 a6) (keyS a2 a8)
@[inherit_doc logitsOf] def keysOf : FVec Ideal S16x1024x10x512 .f32 := keys (keyM a1 a6) (keyS a2 a8)
@[inherit_doc logitsOf] def policyOf : FVec Ideal S16x1024x10 .f32 :=
  policyArr (weightArr (mask a3 a4) (maskedArr (mask a3 a4) (logitsOf a0 a1 a2 a5 a6 a7 a8)))
@[inherit_doc logitsOf] def scoresOf : FVec Ideal S16384x10 .f32 := scoreArr (policyOf a0 a1 a2 a3 a4 a5 a6 a7 a8) g
@[inherit_doc logitsOf] def actOf : IVec S16384 32 := argmaxArr (scoresOf a0 a1 a2 a3 a4 a5 a6 a7 a8 g)
@[inherit_doc logitsOf] def pickedOf : FVec Ideal S16384x1x512 .f32 :=
  takeArr (keyRows (keysOf a1 a2 a6 a8)) (positions (actOf a0 a1 a2 a3 a4 a5 a6 a7 a8 g))
@[inherit_doc logitsOf] def stateOf : FVec Ideal S16x1024x1024 .f32 :=
  outArr a0 (hiddenArr (pickedOf a0 a1 a2 a3 a4 a5 a6 a7 a8 g) a9 a10) a11 a12

theorem keysOf_read (n : Fin 10) (j : Fin 512) :
    keysOf a1 a2 a6 a8 (ix4 p q n j) = (entry a0 a1 a2 a3 a4 a5 a6 a7 a8 a9 a10 a11 a12 g p q).key n j := by
  unfold keysOf
  rw [keys_read]
  unfold Row.Data.key
  by_cases h : n.val < 4
  · rw [Args.pair_lt _ _ h, if_pos h, keyM_read]
    have e : (entry a0 a1 a2 a3 a4 a5 a6 a7 a8 a9 a10 a11 a12 g p q).x n = fun d => a1 (ix5 p q 0 ⟨n.val, h⟩ d) :=
      funext fun d => Args.pair_lt (fun k => a1 (ix5 p q 0 k d)) (fun k => a2 (ix4 p q k d)) h
    rw [e]
    rfl
  · rw [Args.pair_ge _ _ h, if_neg h, keyS_read]
    have e : (entry a0 a1 a2 a3 a4 a5 a6 a7 a8 a9 a10 a11 a12 g p q).x n = fun d => a2 (ix4 p q ⟨n.val - 4, by omega⟩ d) :=
      funext fun d => Args.pair_ge (fun k => a1 (ix5 p q 0 k d)) (fun k => a2 (ix4 p q k d)) h
    rw [e]
    rfl

theorem logitsOf_read (n : Fin 10) :
    logitsOf a0 a1 a2 a5 a6 a7 a8 (ix3 p q n) = (entry a0 a1 a2 a3 a4 a5 a6 a7 a8 a9 a10 a11 a12 g p q).logits n := by
  have hk := fun j => keysOf_read a0 a1 a2 a3 a4 a5 a6 a7 a8 a9 a10 a11 a12 g p q n j
  unfold keysOf at hk
  simp only [keys_read] at hk
  unfold logitsOf
  rw [logits_read]
  unfold Row.Data.logits Row.Data.query
  by_cases h : n.val < 4
  · simp only [Args.pair_lt _ _ h] at hk ⊢
    rw [if_pos h, ← funext hk]
    simp only [query_read]
    rfl
  · simp only [Args.pair_ge _ _ h] at hk ⊢
    rw [if_neg h, ← funext hk]
    simp only [query_read]
    rfl

theorem policyOf_read (n : Fin 10) :
    policyOf a0 a1 a2 a3 a4 a5 a6 a7 a8 (ix3 p q n) = (entry a0 a1 a2 a3 a4 a5 a6 a7 a8 a9 a10 a11 a12 g p q).pol n := by
  unfold policyOf
  rw [policy_read]
  simp only [weight_read, masked_read, mask_read, logitsOf_read a0 a1 a2 a3 a4 a5 a6 a7 a8 a9 a10 a11 a12 g p q]
  rfl

theorem scoresOf_read (n : Fin 10) : scoresOf a0 a1 a2 a3 a4 a5 a6 a7 a8 g (ix2 (Args.at_ p q) n)
    = (entry a0 a1 a2 a3 a4 a5 a6 a7 a8 a9 a10 a11 a12 g p q).scores n := by
  unfold scoresOf
  rw [score_read]
  simp only [policyOf_read a0 a1 a2 a3 a4 a5 a6 a7 a8 a9 a10 a11 a12 g p q]
  rfl

theorem actOf_read : actOf a0 a1 a2 a3 a4 a5 a6 a7 a8 g (ix1 (Args.at_ p q))
    = BitVec.ofNat 32 (entry a0 a1 a2 a3 a4 a5 a6 a7 a8 a9 a10 a11 a12 g p q).act.val := by
  unfold actOf
  rw [argmax_read]
  simp only [scoresOf_read a0 a1 a2 a3 a4 a5 a6 a7 a8 a9 a10 a11 a12 g p q]
  rfl

theorem pickedOf_read (j : Fin 512) : pickedOf a0 a1 a2 a3 a4 a5 a6 a7 a8 g (ix3 (Args.at_ p q) 0 j)
    = (entry a0 a1 a2 a3 a4 a5 a6 a7 a8 a9 a10 a11 a12 g p q).key (entry a0 a1 a2 a3 a4 a5 a6 a7 a8 a9 a10 a11 a12 g p q).act j := by
  unfold pickedOf
  rw [take_read _ _ _ _ (entry a0 a1 a2 a3 a4 a5 a6 a7 a8 a9 a10 a11 a12 g p q).act
    ((positions_read _ _).trans (actOf_read a0 a1 a2 a3 a4 a5 a6 a7 a8 a9 a10 a11 a12 g p q)), keyRows_read]
  exact keysOf_read ..

theorem stateOf_read (d : Fin 1024) : stateOf a0 a1 a2 a3 a4 a5 a6 a7 a8 a9 a10 a11 a12 g (ix3 p q d)
    = (entry a0 a1 a2 a3 a4 a5 a6 a7 a8 a9 a10 a11 a12 g p q).state d := by
  unfold stateOf
  rw [out_read]
  simp only [hidden_read, pickedOf_read a0 a1 a2 a3 a4 a5 a6 a7 a8 a9 a10 a11 a12 g p q]
  rfl

end Cert.ReferenceIdeal.Run
-- ==== Proof.RefResult.lean ====
/-
  The reference's run: each result buffer over any launch contents, stage after stage.
-/
module

public import proofs.«01_k».proof.Proof.RefData

@[expose] public section

set_option maxRecDepth 16384

noncomputable section

open Idealize.ShloMosaic Idealize.ShloMosaic.TcCoe Idealize.ShloMosaic.StableHlo
open Idealize.SL.Sem

namespace Cert.ReferenceIdeal.Run

open Cert.ReferenceIdeal Cert.ReferenceIdeal.Gen

/-- Running one line after another. -/
theorem after_app (a b : List (HloOp τ sig (Elt Ideal))) (A : Valuation τ sig (Elt Ideal)) : after (a ++ b) A = after b (after a A) := by
  induction a generalizing A with
  | nil => rfl
  | cons op a ih => exact ih _

/-- A stage leaves what it does not write. -/
theorem keep {l : List (HloOp τ sig (Elt Ideal))} {W : List (Ref sig .tc)} (hw : l.map HloOp.writes = W.map fun r => {Proc.devRef (τ := τ) .tc r})
    {b : Ref sig .tc} (h : b ∉ W) (A : Valuation τ sig (Elt Ideal)) : after l A (Proc.devRef .tc b) = A (Proc.devRef .tc b) :=
  after_of_writes_sub l A (forall_writes_sub_of_map hw) h

/-- The contents after the front stages, after the noise, and after the choice. -/
def atFront (A : Valuation τ sig (Elt Ideal)) : Valuation τ sig (Elt Ideal) := after (opsFront (F := Ideal)) A
@[inherit_doc atFront] def atNoise (A : Valuation τ sig (Elt Ideal)) : Valuation τ sig (Elt Ideal) := after (opsNoise (F := Ideal)) (atFront A)
@[inherit_doc atFront] def choice : List (HloOp τ sig (Elt Ideal)) := opsScore ++ (opsArgmax ++ (opsIndex ++ opsTake))
@[inherit_doc atFront] def layers : List (HloOp τ sig (Elt Ideal)) := opsHidden ++ (opsBias ++ (opsRelu ++ opsOut))
@[inherit_doc atFront] def choice_W : List (Ref sig .tc) := opsScore_W ++ (opsArgmax_W ++ (opsIndex_W ++ opsTake_W))
@[inherit_doc atFront] def layers_W : List (Ref sig .tc) := opsHidden_W ++ (opsBias_W ++ (opsRelu_W ++ opsOut_W))
@[inherit_doc atFront] def front_W : List (Ref sig .tc) := opsLogits_W ++ (opsMasked_W ++ (opsPolicy_W ++ (opsKey_W ++ opsLog_W)))

theorem ops_after (A : Valuation τ sig (Elt Ideal)) : after (ops (F := Ideal)) A = after layers (after choice (atNoise A)) := by
  unfold atNoise atFront choice layers
  simp only [ops, opsBack, after_app]

theorem choice_writes : choice.map HloOp.writes = choice_W.map fun r => {Proc.devRef (τ := τ) .tc r} := by
  simp only [choice, choice_W, List.map_append]; rfl
theorem layers_writes : layers.map HloOp.writes = layers_W.map fun r => {Proc.devRef (τ := τ) .tc r} := by
  simp only [layers, layers_W, List.map_append]; rfl
theorem front_writes : (opsFront (F := Ideal)).map HloOp.writes = front_W.map fun r => {Proc.devRef (τ := τ) .tc r} := by
  simp only [opsFront, front_W, List.map_append]; rfl

/-! ## The front stages -/

theorem front_read (A : Valuation τ sig (Elt Ideal)) (l : FVec Ideal S16x1024x10 .f32) (pol : FVec Ideal S16x1024x10 .f32)
    (hl : logits (query (A (Proc.devRef .tc main_arg0)) (A (Proc.devRef .tc main_arg5))) (query (A (Proc.devRef .tc main_arg0)) (A (Proc.devRef .tc main_arg7)))
      (keyM (A (Proc.devRef .tc main_arg1)) (A (Proc.devRef .tc main_arg6))) (keyS (A (Proc.devRef .tc main_arg2)) (A (Proc.devRef .tc main_arg8))) = l)
    (hp : policyArr (weightArr (mask (A (Proc.devRef .tc main_arg3)) (A (Proc.devRef .tc main_arg4)))
      (maskedArr (mask (A (Proc.devRef .tc main_arg3)) (A (Proc.devRef .tc main_arg4))) l)) = pol) :
    atFront A (Proc.devRef .tc main_v15) = l ∧ atFront A (Proc.devRef .tc main_v27) = pol
    ∧ atFront A (Proc.devRef .tc main_v11)
      = keys (keyM (A (Proc.devRef .tc main_arg1)) (A (Proc.devRef .tc main_arg6))) (keyS (A (Proc.devRef .tc main_arg2)) (A (Proc.devRef .tc main_arg8)))
    ∧ atFront A (Proc.devRef .tc main_v35) = Noise.seed (F := Ideal)
    ∧ atFront A (Proc.devRef .tc main_v38)
      = Host.log (addf (shapeCast S16384x10 pol shapeCasts_S16x1024x10_S16384x10 : FVec Ideal S16384x10 .f32)
          (broadcastInDim S16384x10 ![] bcast_S_S16384x10 (constant S_ .f32 0x0DA24260#32))) := by
  unfold atFront
  simp only [opsFront, after_app]
  obtain ⟨l15, l11, l12, lc⟩ := logits_stage A
  rw [hl] at l15
  generalize after (opsLogits (F := Ideal)) A = A1 at l15 l11 l12 lc ⊢
  have m16 := masked_stage A1 lc
  rw [l12, l15] at m16
  have m15 := (keep opsMasked_writes (b := main_v15) (by decide +kernel) A1).trans l15
  have m11 := (keep opsMasked_writes (b := main_v11) (by decide +kernel) A1).trans l11
  have m12 := (keep opsMasked_writes (b := main_v12) (by decide +kernel) A1).trans l12
  generalize after (opsMasked (F := Ideal)) A1 = A2 at m16 m15 m11 m12 ⊢
  obtain ⟨p27, p28⟩ := policy_stage A2
  rw [m12, m16, hp] at p27 p28
  have p15 := (keep opsPolicy_writes (b := main_v15) (by decide +kernel) A2).trans m15
  have p11 := (keep opsPolicy_writes (b := main_v11) (by decide +kernel) A2).trans m11
  generalize after (opsPolicy (F := Ideal)) A2 = A3 at p27 p28 p15 p11 ⊢
  have k35 := key_stage A3
  have k15 := (keep opsKey_writes (b := main_v15) (by decide +kernel) A3).trans p15
  have k11 := (keep opsKey_writes (b := main_v11) (by decide +kernel) A3).trans p11
  have k27 := (keep opsKey_writes (b := main_v27) (by decide +kernel) A3).trans p27
  have k28 := (keep opsKey_writes (b := main_v28) (by decide +kernel) A3).trans p28
  generalize after (opsKey (F := Ideal)) A3 = A4 at k35 k15 k11 k27 k28 ⊢
  have g38 := log_stage A4
  rw [k28] at g38
  exact ⟨(keep opsLog_writes (b := main_v15) (by decide +kernel) A4).trans k15, (keep opsLog_writes (b := main_v27) (by decide +kernel) A4).trans k27,
    (keep opsLog_writes (b := main_v11) (by decide +kernel) A4).trans k11, (keep opsLog_writes (b := main_v35) (by decide +kernel) A4).trans k35, g38⟩

/-! ## The choice -/

theorem choice_read (A : Valuation τ sig (Elt Ideal)) (z : FVec Ideal S16384x10 .f32)
    (hz : addf (F := Ideal) (φ := .f32) (A (Proc.devRef .tc main_v39)) (A (Proc.devRef .tc main_v38)) = z) :
    after choice A (Proc.devRef .tc main_v42) = indexOut (argmaxArr z)
    ∧ after choice A (Proc.devRef .tc main_v45) = takeArr (keyRows (A (Proc.devRef .tc main_v11))) (positions (argmaxArr z)) := by
  unfold choice
  simp only [after_app]
  have s40 := (score_stage A).trans hz
  have s11 := keep opsScore_writes (b := main_v11) (by decide +kernel) A
  generalize after (opsScore (F := Ideal)) A = A1 at s40 s11 ⊢
  have a41 := (argmax_stage A1).trans (congrArg argmaxArr s40)
  have a11 := (keep opsArgmax_writes (b := main_v11) (by decide +kernel) A1).trans s11
  generalize after (opsArgmax (F := Ideal)) A1 = A2 at a41 a11 ⊢
  obtain ⟨i42, i43, i44⟩ := index_stage A2
  rw [a41] at i42 i44
  rw [a11] at i43
  generalize after (opsIndex (F := Ideal)) A2 = A3 at i42 i43 i44 ⊢
  have t45 := take_stage A3
  rw [i43, i44] at t45
  exact ⟨(keep opsTake_writes (b := main_v42) (by decide +kernel) A3).trans i42, t45⟩

/-! ## The two layers -/

theorem layers_read (A : Valuation τ sig (Elt Ideal)) : after layers A (Proc.devRef .tc main_v56)
    = outArr (A (Proc.devRef .tc main_arg0))
        (hiddenArr (A (Proc.devRef .tc main_v45)) (A (Proc.devRef .tc main_arg9)) (A (Proc.devRef .tc main_arg10)))
        (A (Proc.devRef .tc main_arg11)) (A (Proc.devRef .tc main_arg12)) := by
  unfold layers
  simp only [after_app]
  obtain ⟨h47, h49⟩ := hidden_stage A
  have h0 := keep opsHidden_writes (b := main_arg0) (by decide +kernel) A
  have h11 := keep opsHidden_writes (b := main_arg11) (by decide +kernel) A
  have h12 := keep opsHidden_writes (b := main_arg12) (by decide +kernel) A
  generalize after (opsHidden (F := Ideal)) A = A1 at h47 h49 h0 h11 h12 ⊢
  have b50 := bias_stage A1
  rw [h47, h49] at b50
  have b0 := (keep opsBias_writes (b := main_arg0) (by decide +kernel) A1).trans h0
  have b11 := (keep opsBias_writes (b := main_arg11) (by decide +kernel) A1).trans h11
  have b12 := (keep opsBias_writes (b := main_arg12) (by decide +kernel) A1).trans h12
  generalize after (opsBias (F := Ideal)) A1 = A2 at b50 b0 b11 b12 ⊢
  have r51 := relu_stage A2
  rw [b50] at r51
  have r0 := (keep opsRelu_writes (b := main_arg0) (by decide +kernel) A2).trans b0
  have r11 := (keep opsRelu_writes (b := main_arg11) (by decide +kernel) A2).trans b11
  have r12 := (keep opsRelu_writes (b := main_arg12) (by decide +kernel) A2).trans b12
  generalize after (opsRelu (F := Ideal)) A2 = A3 at r51 r0 r11 r12 ⊢
  have o := out_stage A3
  rw [r51, r0, r11, r12] at o
  exact o

/-! ## The results -/

/-- An argument is kept through each part, and a front result through the noise. -/
theorem noise_kept {b : Ref sig .tc} (h : b ∉ opsNoise_W) (A : Valuation τ sig (Elt Ideal)) : atNoise A (Proc.devRef .tc b) = atFront A (Proc.devRef .tc b) :=
  keep opsNoise_writes h _

@[inherit_doc noise_kept] theorem arg_kept {b : Ref sig .tc} (h : b ∉ front_W) (h' : b ∉ opsNoise_W) (h'' : b ∉ choice_W) (A : Valuation τ sig (Elt Ideal)) :
    after choice (atNoise A) (Proc.devRef .tc b) = A (Proc.devRef .tc b) :=
  (keep choice_writes h'' _).trans ((noise_kept h' A).trans (keep front_writes h A))

/-- The noise array, of the buffers after the noise stretch. -/
def noise (A : Valuation τ sig (Elt Ideal)) : FVec Ideal S16384x10 .f32 := atNoise A (Proc.devRef .tc main_v39)

/-- The four result buffers over any launch contents. -/
theorem results (A : Valuation τ sig (Elt Ideal))
    {a0 : FVec Ideal S16x1024x1024 .f32} {a1 : FVec Ideal S16x1024x1x4x512 .f32} {a2 : FVec Ideal S16x1024x6x512 .f32}
    {a3 : IVec S16x1024x4 1} {a4 : IVec S16x1024x6 1} {a5 : FVec Ideal S1024x512 .f32} {a6 : FVec Ideal S512x512 .f32}
    {a7 : FVec Ideal S1024x512 .f32} {a8 a9 : FVec Ideal S512x512 .f32} {a10 : FVec Ideal S512 .f32} {a11 : FVec Ideal S512x1024 .f32}
    {a12 : FVec Ideal S1024 .f32}
    (h0 : A (Proc.devRef .tc main_arg0) = a0) (h1 : A (Proc.devRef .tc main_arg1) = a1) (h2 : A (Proc.devRef .tc main_arg2) = a2)
    (h3 : A (Proc.devRef .tc main_arg3) = a3) (h4 : A (Proc.devRef .tc main_arg4) = a4) (h5 : A (Proc.devRef .tc main_arg5) = a5)
    (h6 : A (Proc.devRef .tc main_arg6) = a6) (h7 : A (Proc.devRef .tc main_arg7) = a7) (h8 : A (Proc.devRef .tc main_arg8) = a8)
    (h9 : A (Proc.devRef .tc main_arg9) = a9) (h10 : A (Proc.devRef .tc main_arg10) = a10) (h11 : A (Proc.devRef .tc main_arg11) = a11)
    (h12 : A (Proc.devRef .tc main_arg12) = a12) :
    after (ops (F := Ideal)) A (Proc.devRef .tc main_v42) = indexOut (actOf a0 a1 a2 a3 a4 a5 a6 a7 a8 (noise A))
    ∧ after (ops (F := Ideal)) A (Proc.devRef .tc main_v15) = logitsOf a0 a1 a2 a5 a6 a7 a8
    ∧ after (ops (F := Ideal)) A (Proc.devRef .tc main_v27) = policyOf a0 a1 a2 a3 a4 a5 a6 a7 a8
    ∧ after (ops (F := Ideal)) A (Proc.devRef .tc main_v56) = stateOf a0 a1 a2 a3 a4 a5 a6 a7 a8 a9 a10 a11 a12 (noise A) := by
  have hl : logits (query (A (Proc.devRef .tc main_arg0)) (A (Proc.devRef .tc main_arg5))) (query (A (Proc.devRef .tc main_arg0)) (A (Proc.devRef .tc main_arg7)))
      (keyM (A (Proc.devRef .tc main_arg1)) (A (Proc.devRef .tc main_arg6))) (keyS (A (Proc.devRef .tc main_arg2)) (A (Proc.devRef .tc main_arg8)))
      = logitsOf a0 a1 a2 a5 a6 a7 a8 := by
    rw [h0, h1, h2, h5, h6, h7, h8]; rfl
  have hp : policyArr (weightArr (mask (A (Proc.devRef .tc main_arg3)) (A (Proc.devRef .tc main_arg4)))
      (maskedArr (mask (A (Proc.devRef .tc main_arg3)) (A (Proc.devRef .tc main_arg4))) (logitsOf a0 a1 a2 a5 a6 a7 a8)))
      = policyOf a0 a1 a2 a3 a4 a5 a6 a7 a8 := by
    rw [h3, h4]; rfl
  obtain ⟨f15, f27, f11, -, f38⟩ := front_read A _ _ hl hp
  have hk : keys (keyM (A (Proc.devRef .tc main_arg1)) (A (Proc.devRef .tc main_arg6))) (keyS (A (Proc.devRef .tc main_arg2)) (A (Proc.devRef .tc main_arg8)))
      = keysOf a1 a2 a6 a8 := by
    rw [h1, h2, h6, h8]; rfl
  have n11 := (noise_kept (b := main_v11) (by decide +kernel) A).trans (f11.trans hk)
  have n15 := (noise_kept (b := main_v15) (by decide +kernel) A).trans f15
  have n27 := (noise_kept (b := main_v27) (by decide +kernel) A).trans f27
  have n38 := (noise_kept (b := main_v38) (by decide +kernel) A).trans f38
  have hz : addf (F := Ideal) (φ := .f32) (atNoise A (Proc.devRef .tc main_v39)) (atNoise A (Proc.devRef .tc main_v38))
      = scoresOf a0 a1 a2 a3 a4 a5 a6 a7 a8 (noise A) := by
    rw [n38]; rfl
  obtain ⟨c42, c45⟩ := choice_read (atNoise A) _ hz
  rw [n11] at c45
  have o := layers_read (after choice (atNoise A))
  rw [c45, arg_kept (b := main_arg0) (by decide +kernel) (by decide +kernel) (by decide +kernel) A,
    arg_kept (b := main_arg9) (by decide +kernel) (by decide +kernel) (by decide +kernel) A,
    arg_kept (b := main_arg10) (by decide +kernel) (by decide +kernel) (by decide +kernel) A,
    arg_kept (b := main_arg11) (by decide +kernel) (by decide +kernel) (by decide +kernel) A,
    arg_kept (b := main_arg12) (by decide +kernel) (by decide +kernel) (by decide +kernel) A, h0, h9, h10, h11, h12] at o
  rw [ops_after]
  exact ⟨(keep layers_writes (b := main_v42) (by decide +kernel) _).trans c42,
    (keep layers_writes (b := main_v15) (by decide +kernel) _).trans ((keep choice_writes (b := main_v15) (by decide +kernel) _).trans n15),
    (keep layers_writes (b := main_v27) (by decide +kernel) _).trans ((keep choice_writes (b := main_v27) (by decide +kernel) _).trans n27), o⟩

end Cert.ReferenceIdeal.Run
-- ==== Proof.Match.lean ====
/-
  The two sides meet: the same noise, and the same four result arrays.
-/
module

public import proofs.«01_k».proof.Proof.KernelInputs
public import proofs.«01_k».proof.Proof.RefResult

@[expose] public section

set_option maxRecDepth 16384

noncomputable section

open Idealize.ShloMosaic Idealize.ShloMosaic.TcCoe Idealize.ShloMosaic.StableHlo
open Idealize.SL.Sem

namespace Cert.Match

/-! ## The noise -/

section
variable (A : Valuation Cert.KernelIdeal.τ Cert.KernelIdeal.sig (Elt Ideal)) (A' : Valuation Cert.ReferenceIdeal.τ Cert.ReferenceIdeal.sig (Elt Ideal))

/-- The noise stretch, run by the two programs from contents holding the same key, leaves the same noise. -/
theorem noise_stretch
    (h : A (Proc.devRef .tc Cert.KernelIdeal.main_v15) = Noise.seed (F := Ideal))
    (h' : A' (Proc.devRef .tc Cert.ReferenceIdeal.main_v35) = Noise.seed (F := Ideal)) :
    Noise.get Cert.KernelIdeal.NoiseAt.at_ (after ((Noise.prog (F := Ideal)).map (Noise.Op.real Cert.KernelIdeal.NoiseAt.at_)) A) (.fl 12)
      = Noise.get Cert.ReferenceIdeal.Run.at_ (after ((Noise.prog (F := Ideal)).map (Noise.Op.real Cert.ReferenceIdeal.Run.at_)) A') (.fl 12) := by
  refine Noise.agree_after Cert.KernelIdeal.NoiseAt.at_ Cert.ReferenceIdeal.Run.at_ (Noise.prog (F := Ideal)) [.key] Noise.prog_wf
    Cert.KernelIdeal.NoiseAt.inj Cert.ReferenceIdeal.Run.inj A A' (fun s hs => ?_) (.fl 12) ?_
  · obtain rfl := List.mem_singleton.mp hs
    exact h.trans h'.symm
  · rw [Noise.prog_outs]; decide +kernel
end

variable (m : (ℓ : Loc Cert.KernelIdeal.nD Cert.KernelIdeal.τ Cert.KernelIdeal.sig) → Buf (Elt Ideal) ℓ) (c : Dev Cert.KernelIdeal.nD)

/-- The kernel's noise array is the reference's. -/
theorem noise_eq (A' : Valuation Cert.ReferenceIdeal.τ Cert.ReferenceIdeal.sig (Elt Ideal)) :
    Cert.KernelIdeal.Inputs.noise m c = Cert.ReferenceIdeal.Run.noise A' := by
  have hk := Cert.KernelIdeal.Inputs.front_key (Cert.KernelIdeal.Inputs.E0 m c)
  obtain ⟨-, -, -, hr, -⟩ := Cert.ReferenceIdeal.Run.front_read A' _ _ rfl rfl
  have key := noise_stretch _ _ hk hr
  rw [← Cert.KernelIdeal.NoiseAt.ops_eq] at key
  have e := (Cert.KernelIdeal.Inputs.V_eq m c Cert.KernelIdeal.main_v16).trans
    (Cert.KernelIdeal.Inputs.back_keep (b := Cert.KernelIdeal.main_v16) (by decide +kernel) _)
  exact e.trans key

/-! ## The results -/

section
variable {a0 : FVec Ideal Cert.ReferenceIdeal.S16x1024x1024 .f32} {a1 : FVec Ideal Cert.ReferenceIdeal.S16x1024x1x4x512 .f32}
  {a2 : FVec Ideal Cert.ReferenceIdeal.S16x1024x6x512 .f32} {a3 : IVec Cert.ReferenceIdeal.S16x1024x4 1} {a4 : IVec Cert.ReferenceIdeal.S16x1024x6 1}
  {a5 : FVec Ideal Cert.ReferenceIdeal.S1024x512 .f32} {a6 : FVec Ideal Cert.ReferenceIdeal.S512x512 .f32}
  {a7 : FVec Ideal Cert.ReferenceIdeal.S1024x512 .f32} {a8 a9 : FVec Ideal Cert.ReferenceIdeal.S512x512 .f32} {a10 : FVec Ideal Cert.ReferenceIdeal.S512 .f32}
  {a11 : FVec Ideal Cert.ReferenceIdeal.S512x1024 .f32} {a12 : FVec Ideal Cert.ReferenceIdeal.S1024 .f32} {g : FVec Ideal Cert.ReferenceIdeal.S16384x10 .f32}
  (h : ∀ (p : Fin 16) (q : Fin 1024), Cert.KernelIdeal.Array.rowData m c (Args.at_ p q) = Args.data a0 a1 a2 a3 a4 a5 a6 a7 a8 a9 a10 a11 a12 g p q)

/-- A flattened-batch array unflattened, read at a batch entry. -/
theorem unflat {α : Type} {n : Nat} (x : (⟨2, ![16384, n]⟩ : Shape).Idx → α) (hc : (⟨2, ![16384, n]⟩ : Shape).ShapeCasts ⟨3, ![16, 1024, n]⟩)
    (p : Fin 16) (q : Fin 1024) (k : Fin n) : shapeCast ⟨3, ![16, 1024, n]⟩ x hc (ix3 p q k) = x (ix2 (Args.at_ p q) k) :=
  Idealize.ShloMosaic.shapeCast_apply x _ _ _ (by
    rw [Shape.rowMajor_val_two, Shape.rowMajor_val_three]
    show (Args.at_ p q).val * n + k.val = (p.val * 1024 + q.val) * n + k.val
    rw [Args.at_val, Nat.mul_comm 1024])

include h

theorem idx_match : shapeCast Cert.KernelIdeal.S16x1024x1 (Cert.KernelIdeal.Array.idxArr m c) Cert.KernelIdeal.Gen.shapeCasts_S16384x1_S16x1024x1
    = Cert.ReferenceIdeal.Run.indexOut (Cert.ReferenceIdeal.Run.actOf a0 a1 a2 a3 a4 a5 a6 a7 a8 g) := by
  funext i
  obtain ⟨p, q, k, rfl⟩ : ∃ (p : Fin 16) (q : Fin 1024) (k : Fin 1), i = ix3 p q k := ⟨_, _, _, ValueIdx.eq_ix3 i⟩
  obtain rfl : k = 0 := Subsingleton.elim _ _
  refine (unflat _ _ p q 0).trans ?_
  rw [Cert.KernelIdeal.Array.idxArr_apply, h p q]
  exact ((Cert.ReferenceIdeal.Run.indexOut_read p q _).trans (Cert.ReferenceIdeal.Run.actOf_read a0 a1 a2 a3 a4 a5 a6 a7 a8 a9 a10 a11 a12 g p q)).symm

theorem logits_match : shapeCast Cert.KernelIdeal.S16x1024x10 (Cert.KernelIdeal.Array.logitsArr m c) Cert.KernelIdeal.Gen.shapeCasts_S16384x10_S16x1024x10
    = Cert.ReferenceIdeal.Run.logitsOf a0 a1 a2 a5 a6 a7 a8 := by
  funext i
  obtain ⟨p, q, k, rfl⟩ : ∃ (p : Fin 16) (q : Fin 1024) (k : Fin 10), i = ix3 p q k := ⟨_, _, _, ValueIdx.eq_ix3 i⟩
  refine (unflat _ _ p q k).trans ?_
  rw [Cert.KernelIdeal.Array.logitsArr_apply, h p q]
  exact (Cert.ReferenceIdeal.Run.logitsOf_read a0 a1 a2 a3 a4 a5 a6 a7 a8 a9 a10 a11 a12 g p q k).symm

theorem policy_match : shapeCast Cert.KernelIdeal.S16x1024x10 (Cert.KernelIdeal.Array.policyArr m c) Cert.KernelIdeal.Gen.shapeCasts_S16384x10_S16x1024x10
    = Cert.ReferenceIdeal.Run.policyOf a0 a1 a2 a3 a4 a5 a6 a7 a8 := by
  funext i
  obtain ⟨p, q, k, rfl⟩ : ∃ (p : Fin 16) (q : Fin 1024) (k : Fin 10), i = ix3 p q k := ⟨_, _, _, ValueIdx.eq_ix3 i⟩
  refine (unflat _ _ p q k).trans ?_
  rw [Cert.KernelIdeal.Array.policyArr_apply, h p q]
  exact (Cert.ReferenceIdeal.Run.policyOf_read a0 a1 a2 a3 a4 a5 a6 a7 a8 a9 a10 a11 a12 g p q k).symm

theorem state_match : shapeCast Cert.KernelIdeal.S16x1024x1024 (Cert.KernelIdeal.Array.stateArr m c) Cert.KernelIdeal.Gen.shapeCasts_S16384x1024_S16x1024x1024
    = Cert.ReferenceIdeal.Run.stateOf a0 a1 a2 a3 a4 a5 a6 a7 a8 a9 a10 a11 a12 g := by
  funext i
  obtain ⟨p, q, k, rfl⟩ : ∃ (p : Fin 16) (q : Fin 1024) (k : Fin 1024), i = ix3 p q k := ⟨_, _, _, ValueIdx.eq_ix3 i⟩
  refine (unflat _ _ p q k).trans ?_
  rw [Cert.KernelIdeal.Array.stateArr_apply, h p q]
  exact (Cert.ReferenceIdeal.Run.stateOf_read a0 a1 a2 a3 a4 a5 a6 a7 a8 a9 a10 a11 a12 g p q k).symm
end

end Cert.Match
-- ==== Proof.Algebraic.lean ====
/-
  The value claim: the kernel's program and the reference's, from memories agreeing on the arguments, end with equal
  results and their arguments as they were.
-/
module

public import proofs.«01_k».proof.Defs
public import proofs.«01_k».proof.Proof.Match

@[expose] public section

set_option maxRecDepth 16384

noncomputable section

open Idealize.ShloMosaic Idealize.ShloMosaic.TcCoe Idealize.ShloMosaic.StableHlo
open Idealize.SL.Sem

namespace Cert.Match

theorem algebraic : Cert.algebraic_KernelIdeal_ReferenceIdeal := by
  intro m ρ m' ρ' _ hargs
  have hrow (c : Dev Cert.KernelIdeal.nD) := Cert.KernelIdeal.Inputs.rowData_eq m c
  refine ⟨fun c => shapeCast Cert.KernelIdeal.S16x1024x1 (Cert.KernelIdeal.Array.idxArr m c) Cert.KernelIdeal.Gen.shapeCasts_S16384x1_S16x1024x1,
    fun c => shapeCast Cert.KernelIdeal.S16x1024x10 (Cert.KernelIdeal.Array.logitsArr m c) Cert.KernelIdeal.Gen.shapeCasts_S16384x10_S16x1024x10,
    fun c => shapeCast Cert.KernelIdeal.S16x1024x10 (Cert.KernelIdeal.Array.policyArr m c) Cert.KernelIdeal.Gen.shapeCasts_S16384x10_S16x1024x10,
    fun c => shapeCast Cert.KernelIdeal.S16x1024x1024 (Cert.KernelIdeal.Array.stateArr m c) Cert.KernelIdeal.Gen.shapeCasts_S16384x1024_S16x1024x1024,
    (θ_run Cert.KernelIdeal.defs _ _).mono (fun r h c => ?_)
      (θ_run_and (Cert.KernelIdeal.Array.run_arrays m ρ) (Cert.KernelIdeal.Gen.unchanged m ρ)),
    (θ_run Cert.ReferenceIdeal.defs _ _).mono (fun r h c => ?_) (Cert.ReferenceIdeal.Run.run m' ρ')⟩
  · obtain ⟨h0, h1, h2, h3⟩ := h.1 c
    exact ⟨h0, h1, h2, h3, h.2 c⟩
  · obtain ⟨e0, e1, e2, e3, e4, e5, e6, e7, e8, e9, e10, e11, e12⟩ := hargs c
    obtain ⟨r0, r1, r2, r3⟩ := Cert.ReferenceIdeal.Run.results (launchContents m' c) e0 e1 e2 e3 e4 e5 e6 e7 e8 e9 e10 e11 e12
    have hn := noise_eq m c (launchContents m' c)
    have hd := hrow c
    rw [hn] at hd
    have kept {b : Ref Cert.ReferenceIdeal.sig .tc} (hb : b ∉ Cert.ReferenceIdeal.Run.ops_W) :=
      (h c b).trans (Cert.ReferenceIdeal.Run.kept (F := Ideal) hb (launchContents m' c))
    exact ⟨((h c _).trans r0).trans (idx_match m c hd).symm, ((h c _).trans r1).trans (logits_match m c hd).symm,
      ((h c _).trans r2).trans (policy_match m c hd).symm, ((h c _).trans r3).trans (state_match m c hd).symm,
      kept (by decide +kernel), kept (by decide +kernel), kept (by decide +kernel), kept (by decide +kernel), kept (by decide +kernel),
      kept (by decide +kernel), kept (by decide +kernel), kept (by decide +kernel), kept (by decide +kernel), kept (by decide +kernel),
      kept (by decide +kernel), kept (by decide +kernel), kept (by decide +kernel)⟩

end Cert.Match
-- ==== Proof.lean ====
/-
  The certificate: the kernel and its reference run and leave their arguments as they were (the frames), the ideal reading of
  the kernel is its own text (preserves), and kernel and reference end with equal results (algebraic).

  The modules: `Spec` is the mathematics of one batch entry. `KernelRow`, `KernelBlock`, `KernelArray`, `KernelTail` and
  `KernelInputs` show that the kernel's program computes it, `RefRun` and the other `Ref…` modules that the reference's does.
  `Noise` and `KernelNoise` treat the random noise both draw, `Match` brings the two sides together.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, Cert.ReferenceIdeal.Run.frame, trivial,
  Cert.Match.algebraic⟩

end Cert.Proof

end
